-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_full_even_bin [hPre_no_full_even_bin : Cert.Pre_no_full_even_bin.Facts] (m : (ℓ : Loc Cert.KernelIdeal.nD Cert.KernelIdeal.τ Cert.KernelIdeal.sig) → Buf (Elt Ideal) ℓ) : Prop :=
  ∀ c : Dev Cert.KernelIdeal.nD,
    (Cert.Pre_no_full_even_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_full_even_bin [hPre_no_full_even_bin : Cert.Pre_no_full_even_bin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_full_even_bin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_full_even_bin [hKernelIdeal : Cert.KernelIdeal.Facts] [hPre_no_full_even_bin : Cert.Pre_no_full_even_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_full_even_bin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_full_even_bin [hReferenceIdeal : Cert.ReferenceIdeal.Facts] [hPre_no_full_even_bin : Cert.Pre_no_full_even_bin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_full_even_bin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_full_even_bin [hKernelIdeal : Cert.KernelIdeal.Facts] [hReferenceIdeal : Cert.ReferenceIdeal.Facts] [hPre_no_full_even_bin : Cert.Pre_no_full_even_bin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_full_even_bin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_full_even_bin : Cert.Pre_no_full_even_bin.Facts),
    quiescent_Kernel (hKernel := hKernel)
    ∧ quiescent_KernelIdeal (hKernelIdeal := hKernelIdeal)
    ∧ quiescent_KernelIdeal_pre_no_full_even_bin (hKernelIdeal := hKernelIdeal) (hPre_no_full_even_bin := hPre_no_full_even_bin)
    ∧ quiescent_ReferenceIdeal (hReferenceIdeal := hReferenceIdeal)
    ∧ quiescent_ReferenceIdeal_pre_no_full_even_bin (hReferenceIdeal := hReferenceIdeal) (hPre_no_full_even_bin := hPre_no_full_even_bin)
    ∧ preserves_Kernel_KernelIdeal
    ∧ algebraic_KernelIdeal_ReferenceIdeal_pre_no_full_even_bin (hKernelIdeal := hKernelIdeal) (hReferenceIdeal := hReferenceIdeal) (hPre_no_full_even_bin := hPre_no_full_even_bin)
-- ==== Pre_no_full_even_bin.lean ====
abbrev S64x50x50 : Shape := ⟨3, ![64, 50, 50]⟩
abbrev S64x4096x50 : Shape := ⟨3, ![64, 4096, 50]⟩
abbrev S64x50 : Shape := ⟨2, ![64, 50]⟩
abbrev S64x4096 : Shape := ⟨2, ![64, 4096]⟩
abbrev S1x550 : Shape := ⟨2, ![1, 550]⟩
abbrev S1 : Shape := ⟨1, ![1]⟩
abbrev S1x2500 : Shape := ⟨2, ![1, 2500]⟩
abbrev S_ : Shape := ⟨0, ![]⟩
abbrev S64x50x1 : Shape := ⟨3, ![64, 50, 1]⟩
abbrev S64x4096x1 : Shape := ⟨3, ![64, 4096, 1]⟩
abbrev S64x50x4096 : Shape := ⟨3, ![64, 50, 4096]⟩
abbrev S64x1x4096 : Shape := ⟨3, ![64, 1, 4096]⟩
abbrev S64x50x4096x1 : Shape := ⟨4, ![64, 50, 4096, 1]⟩
abbrev S5 : Shape := ⟨1, ![5]⟩
abbrev S1x1x1x5 : Shape := ⟨4, ![1, 1, 1, 5]⟩
abbrev S64x50x4096x5 : Shape := ⟨4, ![64, 50, 4096, 5]⟩
abbrev S64x50x5 : Shape := ⟨3, ![64, 50, 5]⟩

class Facts : Prop where
  reducesTo_S64x50x50_S64x50_d2 : S64x50x50.ReducesTo [2] S64x50
  h_S_ : 0 < S_.numel
  bcast_S64x50_S64x50x1_0_1 : S64x50.BroadcastsInDim S64x50x1 (![0, 1] : Fin 2 → Fin S64x50x1.rank)
  bcast_S_S64x50x1 : S_.BroadcastsInDim S64x50x1 (![] : Fin 0 → Fin S64x50x1.rank)
  bcast_S64x50x1_S64x50x50_0_1_2 : S64x50x1.BroadcastsInDim S64x50x50 (![0, 1, 2] : Fin 3 → Fin S64x50x50.rank)
  reducesTo_S64x4096x50_S64x4096_d2 : S64x4096x50.ReducesTo [2] S64x4096
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x50_0_1_2 : S64x4096x1.BroadcastsInDim S64x4096x50 (![0, 1, 2] : Fin 3 → Fin S64x4096x50.rank)
  bcast_S_S64x50x4096 : S_.BroadcastsInDim S64x50x4096 (![] : Fin 0 → Fin S64x50x4096.rank)
  bcast_S_S64x50 : S_.BroadcastsInDim S64x50 (![] : Fin 0 → Fin S64x50.rank)
  bcast_S_S64x4096 : S_.BroadcastsInDim S64x4096 (![] : Fin 0 → Fin S64x4096.rank)
  bcast_S64x4096_S64x1x4096_0_2 : S64x4096.BroadcastsInDim S64x1x4096 (![0, 2] : Fin 2 → Fin S64x1x4096.rank)
  bcast_S64x50x1_S64x50x4096_0_1_2 : S64x50x1.BroadcastsInDim S64x50x4096 (![0, 1, 2] : Fin 3 → Fin S64x50x4096.rank)
  bcast_S64x1x4096_S64x50x4096_0_1_2 : S64x1x4096.BroadcastsInDim S64x50x4096 (![0, 1, 2] : Fin 3 → Fin S64x50x4096.rank)
  bcast_S64x50x4096_S64x50x4096x1_0_1_2 : S64x50x4096.BroadcastsInDim S64x50x4096x1 (![0, 1, 2] : Fin 3 → Fin S64x50x4096x1.rank)
  bcast_S_S5 : S_.BroadcastsInDim S5 (![] : Fin 0 → Fin S5.rank)
  bcast_S5_S1x1x1x5_3 : S5.BroadcastsInDim S1x1x1x5 (![3] : Fin 1 → Fin S1x1x1x5.rank)
  bcast_S64x50x4096x1_S64x50x4096x5_0_1_2_3 : S64x50x4096x1.BroadcastsInDim S64x50x4096x5 (![0, 1, 2, 3] : Fin 4 → Fin S64x50x4096x5.rank)
  bcast_S1x1x1x5_S64x50x4096x5_0_1_2_3 : S1x1x1x5.BroadcastsInDim S64x50x4096x5 (![0, 1, 2, 3] : Fin 4 → Fin S64x50x4096x5.rank)
  reducesTo_S64x50x4096x5_S64x50x5_d2 : S64x50x4096x5.ReducesTo [2] S64x50x5
  bcast_S_S64x50x5 : S_.BroadcastsInDim S64x50x5 (![] : Fin 0 → Fin S64x50x5.rank)
  dot_S64x50x50_S64x4096x50_S64x50x4096_2_2_1_1_0_0_wf : DotDims.WF S64x50x50 S64x4096x50 S64x50x4096 [2] [2] [1] [1] [0] [0]

variable [Facts]

def dot_S64x50x50_S64x4096x50_S64x50x4096_2_2_1_1_0_0 : DotDims S64x50x50 S64x4096x50 S64x50x4096 where
  lhsContracting := [2]
  rhsContracting := [2]
  lhsNonContracting := [1]
  rhsNonContracting := [1]
  lhsBatch := [0]
  rhsBatch := [0]
  wf := dot_S64x50x50_S64x4096x50_S64x50x4096_2_2_1_1_0_0_wf
def fn_part2 {F : FTy → Type} [FloatOps F] (main_v33 : FVec F S64x50x4096 .f32) (main_v34 : IVec S64x50x4096x1 32) (main_v37 : IVec S5 32) : IVec S64x50x5 1 :=
  let main_v38 : IVec S1x1x1x5 32 := broadcastInDim S1x1x1x5 ![3] bcast_S5_S1x1x1x5_3 main_v37
  let main_v39 : IVec S64x50x4096x5 32 := broadcastInDim S64x50x4096x5 ![0, 1, 2, 3] bcast_S64x50x4096x1_S64x50x4096x5_0_1_2_3 main_v34
  let main_v40 : IVec S64x50x4096x5 32 := broadcastInDim S64x50x4096x5 ![0, 1, 2, 3] bcast_S1x1x1x5_S64x50x4096x5_0_1_2_3 main_v38
  let main_v41 : IVec S64x50x4096x5 1 := cmpi .eq main_v39 main_v40
  let main_v42 : FVec F S64x50x4096x1 .f32 := broadcastInDim S64x50x4096x1 ![0, 1, 2] bcast_S64x50x4096_S64x50x4096x1_0_1_2 main_v33
  let main_v43 : FVec F S64x50x4096x5 .f32 := uitofp .f32 main_v41
  let main_v44 : FVec F S64x50x4096x5 .f32 := broadcastInDim S64x50x4096x5 ![0, 1, 2, 3] bcast_S64x50x4096x1_S64x50x4096x5_0_1_2_3 main_v42
  let main_v45 : FVec F S64x50x4096x5 .f32 := mulf main_v44 main_v43
  let main_cst_8 : FVec F S_ .f32 := constant S_ .f32 0x00000000#32
  let main_v46 : FVec F S64x50x5 .f32 := (fun x v => Host.reduceAdd x v reducesTo_S64x50x4096x5_S64x50x5_d2 h_S_) main_v45 main_cst_8
  let main_cst_9 : FVec F S_ .f32 := constant S_ .f32 0x45800000#32
  let main_v47 : FVec F S64x50x5 .f32 := broadcastInDim S64x50x5 ![] bcast_S_S64x50x5 main_cst_9
  let main_v48 : IVec S64x50x5 1 := cmpf .olt main_v46 main_v47
  main_v48

def fn_part1 {F : FTy → Type} [FloatOps F] (main_arg2 : IVec S64x50 32) (main_arg3 : IVec S64x4096 32) (main_v18 : FVec F S64x50x4096 .f32) : IVec S64x50x5 1 :=
  let main_cst_4 : FVec F S_ .f32 := constant S_ .f32 0x40000000#32
  let main_v19 : FVec F S64x50x4096 .f32 := broadcastInDim S64x50x4096 ![] bcast_S_S64x50x4096 main_cst_4
  let main_v20 : FVec F S64x50x4096 .f32 := Host.divf main_v18 main_v19
  let main_cst_5 : FVec F S_ .f32 := constant S_ .f32 0x41200000#32
  let main_v21 : FVec F S64x50x4096 .f32 := broadcastInDim S64x50x4096 ![] bcast_S_S64x50x4096 main_cst_5
  let main_v22 : FVec F S64x50x4096 .f32 := mulf main_v20 main_v21
  let main_v23 : IVec S64x50x4096 32 := fptosi 32 main_v22
  let main_c : IVec S_ 32 := constantI S_ 32 0#32
  let main_v24 : IVec S64x50 32 := broadcastInDim S64x50 ![] bcast_S_S64x50 main_c
  let main_v25 : IVec S64x50 1 := cmpi .ne main_arg2 main_v24
  let main_v26 : IVec S64x50x1 1 := broadcastInDim S64x50x1 ![0, 1] bcast_S64x50_S64x50x1_0_1 main_v25
  let main_c_6 : IVec S_ 32 := constantI S_ 32 0#32
  let main_v27 : IVec S64x4096 32 := broadcastInDim S64x4096 ![] bcast_S_S64x4096 main_c_6
  let main_v28 : IVec S64x4096 1 := cmpi .ne main_arg3 main_v27
  let main_v29 : IVec S64x1x4096 1 := broadcastInDim S64x1x4096 ![0, 2] bcast_S64x4096_S64x1x4096_0_2 main_v28
  let main_v30 : IVec S64x50x4096 1 := broadcastInDim S64x50x4096 ![0, 1, 2] bcast_S64x50x1_S64x50x4096_0_1_2 main_v26
  let main_v31 : IVec S64x50x4096 1 := broadcastInDim S64x50x4096 ![0, 1, 2] bcast_S64x1x4096_S64x50x4096_0_1_2 main_v29
  let main_v32 : IVec S64x50x4096 1 := andi main_v30 main_v31
  let main_v33 : FVec F S64x50x4096 .f32 := uitofp .f32 main_v32
  let main_v34 : IVec S64x50x4096x1 32 := broadcastInDim S64x50x4096x1 ![0, 1, 2] bcast_S64x50x4096_S64x50x4096x1_0_1_2 main_v23
  let main_v35 : IVec S5 32 := iotaInDim S5 32 0
  let main_c_7 : IVec S_ 32 := constantI S_ 32 2#32
  let main_v36 : IVec S5 32 := broadcastInDim S5 ![] bcast_S_S5 main_c_7
  let main_v37 : IVec S5 32 := muli main_v36 main_v35
  fn_part2 (F := F) main_v33 main_v34 main_v37

def fn {F : FTy → Type} [FloatOps F] (main_arg0 : FVec F S64x50x50 .f32) (main_arg1 : FVec F S64x4096x50 .f32) (main_arg2 : IVec S64x50 32) (main_arg3 : IVec S64x4096 32) (main_arg4 : FVec F S1x550 .f32) (main_arg5 : FVec F S1 .f32) (main_arg6 : FVec F S1x2500 .f32) : IVec S64x50x5 1 :=
  let main_v0 : FVec F S64x50x50 .f32 := mulf main_arg0 main_arg0
  let main_cst : FVec F S_ .f32 := constant S_ .f32 0x00000000#32
  let main_v1 : FVec F S64x50 .f32 := (fun x v => Host.reduceAdd x v reducesTo_S64x50x50_S64x50_d2 h_S_) main_v0 main_cst
  let main_v2 : FVec F S64x50x1 .f32 := broadcastInDim S64x50x1 ![0, 1] bcast_S64x50_S64x50x1_0_1 main_v1
  let main_v3 : FVec F S64x50x1 .f32 := Host.sqrt main_v2
  let main_cst_0 : FVec F S_ .f32 := constant S_ .f32 0x29E12E13#32
  let main_v4 : FVec F S64x50x1 .f32 := broadcastInDim S64x50x1 ![] bcast_S_S64x50x1 main_cst_0
  let main_v5 : FVec F S64x50x1 .f32 := addf main_v3 main_v4
  let main_v6 : FVec F S64x50x50 .f32 := broadcastInDim S64x50x50 ![0, 1, 2] bcast_S64x50x1_S64x50x50_0_1_2 main_v5
  let main_v7 : FVec F S64x50x50 .f32 := Host.divf main_arg0 main_v6
  let main_v8 : FVec F S64x4096x50 .f32 := mulf main_arg1 main_arg1
  let main_cst_1 : FVec F S_ .f32 := constant S_ .f32 0x00000000#32
  let main_v9 : FVec F S64x4096 .f32 := (fun x v => Host.reduceAdd x v reducesTo_S64x4096x50_S64x4096_d2 h_S_) main_v8 main_cst_1
  let main_v10 : FVec F S64x4096x1 .f32 := broadcastInDim S64x4096x1 ![0, 1] bcast_S64x4096_S64x4096x1_0_1 main_v9
  let main_v11 : FVec F S64x4096x1 .f32 := Host.sqrt main_v10
  let main_cst_2 : FVec F S_ .f32 := constant S_ .f32 0x29E12E13#32
  let main_v12 : FVec F S64x4096x1 .f32 := broadcastInDim S64x4096x1 ![] bcast_S_S64x4096x1 main_cst_2
  let main_v13 : FVec F S64x4096x1 .f32 := addf main_v11 main_v12
  let main_v14 : FVec F S64x4096x50 .f32 := broadcastInDim S64x4096x50 ![0, 1, 2] bcast_S64x4096x1_S64x4096x50_0_1_2 main_v13
  let main_v15 : FVec F S64x4096x50 .f32 := Host.divf main_arg1 main_v14
  let main_v16 : FVec F S64x50x4096 .f32 := (fun l r => Host.dotGeneral dot_S64x50x50_S64x4096x50_S64x50x4096_2_2_1_1_0_0 none l r) main_v7 main_v15
  let main_cst_3 : FVec F S_ .f32 := constant S_ .f32 0x3F800054#32
  let main_v17 : FVec F S64x50x4096 .f32 := broadcastInDim S64x50x4096 ![] bcast_S_S64x50x4096 main_cst_3
  let main_v18 : FVec F S64x50x4096 .f32 := addf main_v16 main_v17
  fn_part1 (F := F) main_arg2 main_arg3 main_v18
-- ==== Kernel.lean ====
abbrev S64x50x50 : Shape := ⟨3, ![64, 50, 50]⟩
abbrev S64x4096x50 : Shape := ⟨3, ![64, 4096, 50]⟩
abbrev S64x50 : Shape := ⟨2, ![64, 50]⟩
abbrev S64x4096 : Shape := ⟨2, ![64, 4096]⟩
abbrev S1x550 : Shape := ⟨2, ![1, 550]⟩
abbrev S1 : Shape := ⟨1, ![1]⟩
abbrev S1x2500 : Shape := ⟨2, ![1, 2500]⟩
abbrev S64x50x1 : Shape := ⟨3, ![64, 50, 1]⟩
abbrev S64x1x4096 : Shape := ⟨3, ![64, 1, 4096]⟩
abbrev S50x11 : Shape := ⟨2, ![50, 11]⟩
abbrev S50x50 : Shape := ⟨2, ![50, 50]⟩
abbrev S1x1 : Shape := ⟨2, ![1, 1]⟩
abbrev S_ : Shape := ⟨0, ![]⟩
abbrev S64x4096x1 : Shape := ⟨3, ![64, 4096, 1]⟩
abbrev S64x1 : Shape := ⟨2, ![64, 1]⟩
abbrev S1x50x50 : Shape := ⟨3, ![1, 50, 50]⟩
abbrev S1x4096x50 : Shape := ⟨3, ![1, 4096, 50]⟩
abbrev S1x50x1 : Shape := ⟨3, ![1, 50, 1]⟩
abbrev S1x1x4096 : Shape := ⟨3, ![1, 1, 4096]⟩
abbrev S4096x50 : Shape := ⟨2, ![4096, 50]⟩
abbrev S50x1 : Shape := ⟨2, ![50, 1]⟩
abbrev S1x4096 : Shape := ⟨2, ![1, 4096]⟩
abbrev S50x4096 : Shape := ⟨2, ![50, 4096]⟩
abbrev S1x1x1 : Shape := ⟨3, ![1, 1, 1]⟩
abbrev S50x10 : Shape := ⟨2, ![50, 10]⟩
abbrev S50 : Shape := ⟨1, ![50]⟩
abbrev S1x50x11 : Shape := ⟨3, ![1, 50, 11]⟩
abbrev S1x64x1 : Shape := ⟨3, ![1, 64, 1]⟩
abbrev S64 : Shape := ⟨1, ![64]⟩

abbrev nBuf : Space → Nat
  | .hbm => 38
  | .vmem => 17
  | .smem => 0
  | _ => 0

abbrev bufTy : (tb : Table) → Fin (tcTables nBuf tb) → BufTy
  | .hbm, ⟨0, _⟩ => ⟨S64x50x50, .f32⟩
  | .hbm, ⟨1, _⟩ => ⟨S64x4096x50, .f32⟩
  | .hbm, ⟨2, _⟩ => ⟨S64x50, .i32⟩
  | .hbm, ⟨3, _⟩ => ⟨S64x4096, .i32⟩
  | .hbm, ⟨4, _⟩ => ⟨S1x550, .f32⟩
  | .hbm, ⟨5, _⟩ => ⟨S1, .f32⟩
  | .hbm, ⟨6, _⟩ => ⟨S1x2500, .f32⟩
  | .hbm, ⟨7, _⟩ => ⟨S64x50x1, .i32⟩
  | .hbm, ⟨8, _⟩ => ⟨S64x1x4096, .i32⟩
  | .hbm, ⟨9, _⟩ => ⟨S50x11, .f32⟩
  | .hbm, ⟨10, _⟩ => ⟨S50x11, .bf16⟩
  | .hbm, ⟨11, _⟩ => ⟨S50x11, .f32⟩
  | .hbm, ⟨12, _⟩ => ⟨S50x50, .f32⟩
  | .hbm, ⟨13, _⟩ => ⟨S1x1, .f32⟩
  | .hbm, ⟨14, _⟩ => ⟨S64x50x50, .f32⟩
  | .hbm, ⟨15, _⟩ => ⟨S_, .f32⟩
  | .hbm, ⟨16, _⟩ => ⟨S64x50, .f32⟩
  | .hbm, ⟨17, _⟩ => ⟨S64x50x1, .f32⟩
  | .hbm, ⟨18, _⟩ => ⟨S64x50x1, .f32⟩
  | .hbm, ⟨19, _⟩ => ⟨S_, .f32⟩
  | .hbm, ⟨20, _⟩ => ⟨S64x50x1, .f32⟩
  | .hbm, ⟨21, _⟩ => ⟨S64x50x1, .f32⟩
  | .hbm, ⟨22, _⟩ => ⟨S64x50x50, .f32⟩
  | .hbm, ⟨23, _⟩ => ⟨S64x50x50, .f32⟩
  | .hbm, ⟨24, _⟩ => ⟨S64x50x50, .bf16⟩
  | .hbm, ⟨25, _⟩ => ⟨S64x4096x50, .f32⟩
  | .hbm, ⟨26, _⟩ => ⟨S_, .f32⟩
  | .hbm, ⟨27, _⟩ => ⟨S64x4096, .f32⟩
  | .hbm, ⟨28, _⟩ => ⟨S64x4096x1, .f32⟩
  | .hbm, ⟨29, _⟩ => ⟨S64x4096x1, .f32⟩
  | .hbm, ⟨30, _⟩ => ⟨S_, .f32⟩
  | .hbm, ⟨31, _⟩ => ⟨S64x4096x1, .f32⟩
  | .hbm, ⟨32, _⟩ => ⟨S64x4096x1, .f32⟩
  | .hbm, ⟨33, _⟩ => ⟨S64x4096x50, .f32⟩
  | .hbm, ⟨34, _⟩ => ⟨S64x4096x50, .f32⟩
  | .hbm, ⟨35, _⟩ => ⟨S64x4096x50, .bf16⟩
  | .hbm, ⟨36, _⟩ => ⟨S64x1, .f32⟩
  | .hbm, ⟨37, _⟩ => ⟨S64, .f32⟩
  | .local _ .vmem, ⟨0, _⟩ => ⟨S1x50x50, .bf16⟩
  | .local _ .vmem, ⟨1, _⟩ => ⟨S1x50x50, .bf16⟩
  | .local _ .vmem, ⟨2, _⟩ => ⟨S1x4096x50, .bf16⟩
  | .local _ .vmem, ⟨3, _⟩ => ⟨S1x4096x50, .bf16⟩
  | .local _ .vmem, ⟨4, _⟩ => ⟨S1x50x50, .f32⟩
  | .local _ .vmem, ⟨5, _⟩ => ⟨S1x50x50, .f32⟩
  | .local _ .vmem, ⟨6, _⟩ => ⟨S1x50x1, .i32⟩
  | .local _ .vmem, ⟨7, _⟩ => ⟨S1x50x1, .i32⟩
  | .local _ .vmem, ⟨8, _⟩ => ⟨S1x1x4096, .i32⟩
  | .local _ .vmem, ⟨9, _⟩ => ⟨S1x1x4096, .i32⟩
  | .local _ .vmem, ⟨10, _⟩ => ⟨S50x11, .f32⟩
  | .local _ .vmem, ⟨11, _⟩ => ⟨S50x50, .f32⟩
  | .local _ .vmem, ⟨12, _⟩ => ⟨S1x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S50x11, .bf16⟩
  | _, _ => ⟨S64x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v124 : Index := Scalar.indexCast arg0
  let c0_52 : Index := 0#32
  ![v124.toNat, 0]
def k0_cond1 (i : grid0.Coords) : BitVec 1 :=
  let arg0 : BitVec 32 := BitVec.ofNat 32 (i 0).val
  let c63_i32 : BitVec 32 := 63#32
  let v140 : BitVec 1 := Scalar.cmpi .eq arg0 c63_i32
  let v141 : BitVec 32 := Scalar.extui v140
  let c0_i32_57 : BitVec 32 := 0#32
  let v142 : BitVec 1 := Scalar.cmpi .ne v141 c0_i32_57
  v142

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x50x50 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x50 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x50x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x50x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S50x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S64x50x50 : Shape := ⟨3, ![64, 50, 50]⟩
abbrev S64x4096x50 : Shape := ⟨3, ![64, 4096, 50]⟩
abbrev S64x50 : Shape := ⟨2, ![64, 50]⟩
abbrev S64x4096 : Shape := ⟨2, ![64, 4096]⟩
abbrev S1x550 : Shape := ⟨2, ![1, 550]⟩
abbrev S1 : Shape := ⟨1, ![1]⟩
abbrev S1x2500 : Shape := ⟨2, ![1, 2500]⟩
abbrev S_ : Shape := ⟨0, ![]⟩
abbrev S64x50x1 : Shape := ⟨3, ![64, 50, 1]⟩
abbrev S64x4096x1 : Shape := ⟨3, ![64, 4096, 1]⟩
abbrev S64x50x4096 : Shape := ⟨3, ![64, 50, 4096]⟩
abbrev S64x1x4096 : Shape := ⟨3, ![64, 1, 4096]⟩
abbrev S3200 : Shape := ⟨1, ![3200]⟩
abbrev S13107200 : Shape := ⟨1, ![13107200]⟩
abbrev S35200 : Shape := ⟨1, ![35200]⟩
abbrev S13107200x1 : Shape := ⟨2, ![13107200, 1]⟩
abbrev S64x50x11 : Shape := ⟨3, ![64, 50, 11]⟩
abbrev S64x550 : Shape := ⟨2, ![64, 550]⟩
abbrev S550x1 : Shape := ⟨2, ![550, 1]⟩
abbrev S64x1 : Shape := ⟨2, ![64, 1]⟩
abbrev S1x1 : Shape := ⟨2, ![1, 1]⟩
abbrev S64x2500 : Shape := ⟨2, ![64, 2500]⟩
abbrev S2500x1 : Shape := ⟨2, ![2500, 1]⟩
abbrev S64 : Shape := ⟨1, ![64]⟩
abbrev S1x64 : Shape := ⟨2, ![1, 64]⟩
abbrev S64x64 : Shape := ⟨2, ![64, 64]⟩

abbrev nBuf : Space → Nat
  | .hbm => 125
  | .vmem => 0
  | .smem => 0
  | _ => 0

abbrev bufTy : (tb : Table) → Fin (tcTables nBuf tb) → BufTy
  | .hbm, ⟨0, _⟩ => ⟨S64x50x50, .f32⟩
  | .hbm, ⟨1, _⟩ => ⟨S64x4096x50, .f32⟩
  | .hbm, ⟨2, _⟩ => ⟨S64x50, .i32⟩
  | .hbm, ⟨3, _⟩ => ⟨S64x4096, .i32⟩
  | .hbm, ⟨4, _⟩ => ⟨S1x550, .f32⟩
  | .hbm, ⟨5, _⟩ => ⟨S1, .f32⟩
  | .hbm, ⟨6, _⟩ => ⟨S1x2500, .f32⟩
  | .hbm, ⟨7, _⟩ => ⟨S64x50x50, .f32⟩
  | .hbm, ⟨8, _⟩ => ⟨S_, .f32⟩
  | .hbm, ⟨9, _⟩ => ⟨S64x50, .f32⟩
  | .hbm, ⟨10, _⟩ => ⟨S64x50x1, .f32⟩
  | .hbm, ⟨11, _⟩ => ⟨S64x50x1, .f32⟩
  | .hbm, ⟨12, _⟩ => ⟨S_, .f32⟩
  | .hbm, ⟨13, _⟩ => ⟨S64x50x1, .f32⟩
  | .hbm, ⟨14, _⟩ => ⟨S64x50x1, .f32⟩
  | .hbm, ⟨15, _⟩ => ⟨S64x50x50, .f32⟩
  | .hbm, ⟨16, _⟩ => ⟨S64x50x50, .f32⟩
  | .hbm, ⟨17, _⟩ => ⟨S64x4096x50, .f32⟩
  | .hbm, ⟨18, _⟩ => ⟨S_, .f32⟩
  | .hbm, ⟨19, _⟩ => ⟨S64x4096, .f32⟩
  | .hbm, ⟨20, _⟩ => ⟨S64x4096x1, .f32⟩
  | .hbm, ⟨21, _⟩ => ⟨S64x4096x1, .f32⟩
  | .hbm, ⟨22, _⟩ => ⟨S_, .f32⟩
  | .hbm, ⟨23, _⟩ => ⟨S64x4096x1, .f32⟩
  | .hbm, ⟨24, _⟩ => ⟨S64x4096x1, .f32⟩
  | .hbm, ⟨25, _⟩ => ⟨S64x4096x50, .f32⟩
  | .hbm, ⟨26, _⟩ => ⟨S64x4096x50, .f32⟩
  | .hbm, ⟨27, _⟩ => ⟨S64x50x4096, .f32⟩
  | .hbm, ⟨28, _⟩ => ⟨S_, .i32⟩
  | .hbm, ⟨29, _⟩ => ⟨S64x50, .i32⟩
  | .hbm, ⟨30, _⟩ => ⟨S64x50, .i1⟩
  | .hbm, ⟨31, _⟩ => ⟨S64x50x1, .i1⟩
  | .hbm, ⟨32, _⟩ => ⟨S_, .i32⟩
  | .hbm, ⟨33, _⟩ => ⟨S64x4096, .i32⟩
  | .hbm, ⟨34, _⟩ => ⟨S64x4096, .i1⟩
  | .hbm, ⟨35, _⟩ => ⟨S64x1x4096, .i1⟩
  | .hbm, ⟨36, _⟩ => ⟨S64x50x4096, .i1⟩
  | .hbm, ⟨37, _⟩ => ⟨S64x50x4096, .i1⟩
  | .hbm, ⟨38, _⟩ => ⟨S64x50x4096, .i1⟩
  | .hbm, ⟨39, _⟩ => ⟨S64x50x4096, .f32⟩
  | .hbm, ⟨40, _⟩ => ⟨S64x50x4096, .f32⟩
  | .hbm, ⟨41, _⟩ => ⟨S_, .f32⟩
  | .hbm, ⟨42, _⟩ => ⟨S64x50x4096, .f32⟩
  | .hbm, ⟨43, _⟩ => ⟨S64x50x4096, .f32⟩
  | .hbm, ⟨44, _⟩ => ⟨S_, .f32⟩
  | .hbm, ⟨45, _⟩ => ⟨S64x50x4096, .f32⟩
  | .hbm, ⟨46, _⟩ => ⟨S64x50x4096, .f32⟩
  | .hbm, ⟨47, _⟩ => ⟨S_, .f32⟩
  | .hbm, ⟨48, _⟩ => ⟨S64x50x4096, .f32⟩
  | .hbm, ⟨49, _⟩ => ⟨S64x50x4096, .f32⟩
  | .hbm, ⟨50, _⟩ => ⟨S64x50x4096, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S64x50x4096, .i32⟩
  | .hbm, ⟨55, _⟩ => ⟨S64x50x4096, .i32⟩
  | .hbm, ⟨56, _⟩ => ⟨S_, .i32⟩
  | .hbm, ⟨57, _⟩ => ⟨S64x50x4096, .i32⟩
  | .hbm, ⟨58, _⟩ => ⟨S64x50x4096, .i32⟩
  | .hbm, ⟨59, _⟩ => ⟨S_, .i32⟩
  | .hbm, ⟨60, _⟩ => ⟨S64x50, .i32⟩
  | .hbm, ⟨61, _⟩ => ⟨S64x50, .i1⟩
  | .hbm, ⟨62, _⟩ => ⟨S64x50x1, .i1⟩
  | .hbm, ⟨63, _⟩ => ⟨S_, .i32⟩
  | .hbm, ⟨64, _⟩ => ⟨S64x4096, .i32⟩
  | .hbm, ⟨65, _⟩ => ⟨S64x4096, .i1⟩
  | .hbm, ⟨66, _⟩ => ⟨S64x1x4096, .i1⟩
  | .hbm, ⟨67, _⟩ => ⟨S64x50x4096, .i1⟩
  | .hbm, ⟨68, _⟩ => ⟨S64x50x4096, .i1⟩
  | .hbm, ⟨69, _⟩ => ⟨S64x50x4096, .i1⟩
  | .hbm, ⟨70, _⟩ => ⟨S64x50x4096, .f32⟩
  | .hbm, ⟨71, _⟩ => ⟨S3200, .i32⟩
  | .hbm, ⟨72, _⟩ => ⟨S_, .i32⟩
  | .hbm, ⟨73, _⟩ => ⟨S3200, .i32⟩
  | .hbm, ⟨74, _⟩ => ⟨S3200, .i32⟩
  | .hbm, ⟨75, _⟩ => ⟨S64x50x1, .i32⟩
  | .hbm, ⟨76, _⟩ => ⟨S64x50x4096, .i32⟩
  | .hbm, ⟨77, _⟩ => ⟨S64x50x4096, .i32⟩
  | .hbm, ⟨78, _⟩ => ⟨S13107200, .i32⟩
  | .hbm, ⟨79, _⟩ => ⟨S_, .f32⟩
  | .hbm, ⟨80, _⟩ => ⟨S35200, .f32⟩
  | .hbm, ⟨81, _⟩ => ⟨S13107200, .f32⟩
  | .hbm, ⟨82, _⟩ => ⟨S_, .i32⟩
  | .hbm, ⟨83, _⟩ => ⟨S13107200, .i32⟩
  | .hbm, ⟨84, _⟩ => ⟨S13107200, .i1⟩
  | .hbm, ⟨85, _⟩ => ⟨S_, .i32⟩
  | .hbm, ⟨86, _⟩ => ⟨S13107200, .i32⟩
  | .hbm, ⟨87, _⟩ => ⟨S13107200, .i32⟩
  | .hbm, ⟨88, _⟩ => ⟨S13107200, .i32⟩
  | .hbm, ⟨89, _⟩ => ⟨S13107200x1, .i32⟩
  | .hbm, ⟨90, _⟩ => ⟨S35200, .f32⟩
  | .hbm, ⟨91, _⟩ => ⟨S64x50x11, .f32⟩
  | .hbm, ⟨92, _⟩ => ⟨S_, .f32⟩
  | .hbm, ⟨93, _⟩ => ⟨S64x50x11, .f32⟩
  | .hbm, ⟨94, _⟩ => ⟨S64x50x11, .f32⟩
  | .hbm, ⟨95, _⟩ => ⟨S64x50x11, .f32⟩
  | .hbm, ⟨96, _⟩ => ⟨S64x550, .f32⟩
  | .hbm, ⟨97, _⟩ => ⟨S550x1, .f32⟩
  | .hbm, ⟨98, _⟩ => ⟨S64x1, .f32⟩
  | .hbm, ⟨99, _⟩ => ⟨S1x1, .f32⟩
  | .hbm, ⟨100, _⟩ => ⟨S64x1, .f32⟩
  | .hbm, ⟨101, _⟩ => ⟨S64x1, .f32⟩
  | .hbm, ⟨102, _⟩ => ⟨S64x2500, .f32⟩
  | .hbm, ⟨103, _⟩ => ⟨S2500x1, .f32⟩
  | .hbm, ⟨104, _⟩ => ⟨S64x1, .f32⟩
  | .hbm, ⟨105, _⟩ => ⟨S64, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S_, .f32⟩
  | .hbm, ⟨115, _⟩ => ⟨S_, .f32⟩
  | .hbm, ⟨116, _⟩ => ⟨S1, .f32⟩
  | .hbm, ⟨117, _⟩ => ⟨S64, .f32⟩
  | .hbm, ⟨118, _⟩ => ⟨S64, .f32⟩
  | .hbm, ⟨119, _⟩ => ⟨S1x64, .f32⟩
  | .hbm, ⟨120, _⟩ => ⟨S64x64, .f32⟩
  | .hbm, ⟨121, _⟩ => ⟨S64x64, .f32⟩
  | .hbm, ⟨122, _⟩ => ⟨S64x64, .f32⟩
  | .hbm, ⟨123, _⟩ => ⟨S_, .f32⟩
  | .hbm, ⟨124, _⟩ => ⟨S64, .f32⟩
  | _, _ => ⟨S64x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_c_11 : Ref sig .tc := ⟨.hbm, 82, rfl⟩
abbrev main_v49 : Ref sig .tc := ⟨.hbm, 83, rfl⟩
abbrev main_v50 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== Proof.Spec.lean ====
/-
# The network, written once

The seven arrays of the problem, and the value of the network on them over the extended reals. The kernel and
the reference are each shown to compute `Args.out`.
-/
module

public import Idealize.ShloMosaic.PureOps.Ideal.Laws

@[expose] public section

open Idealize.ShloMosaic

namespace Cert.Drmm

/-- A float word, read as the rational number it stands for. -/
noncomputable abbrev lit (b : BitVec 32) : EReal := Ideal.ofBits .f32 b

/-- The added constant under the square root's quotient, about 1e-13. -/
noncomputable abbrev eps : EReal := lit 0x29E12E13#32

/-- A row divided by its length plus `eps`. -/
noncomputable def normed (x : Fin 50 → EReal) (e : Fin 50) : EReal :=
  Ideal.div (x e) (Ideal.sqrt (∑ k, x k * x k) + eps)

/-- The cosine of two rows. -/
noncomputable def cosine (x y : Fin 50 → EReal) : EReal := ∑ e, normed x e * normed y e

/-- The histogram's bin of a similarity. -/
noncomputable def binOf (s : EReal) : BitVec 32 :=
  Ideal.fptosi 32 (Ideal.div (s + lit 0x3F800054#32) (lit 0x40000000#32) * lit 0x41200000#32)

/-- The seven arrays: queries, documents, the tokens' ids, the two layers' weights and the bias. -/
structure Args where
  q : Fin 64 → Fin 50 → Fin 50 → EReal
  d : Fin 64 → Fin 4096 → Fin 50 → EReal
  qi : Fin 64 → Fin 50 → BitVec 32
  di : Fin 64 → Fin 4096 → BitVec 32
  W : Fin 550 → EReal
  b1 : EReal
  G : Fin 2500 → EReal

namespace Args

variable (a : Args)

/-- The bin of query token `i` with document token `k` in batch `b`. -/
noncomputable def bin (b : Fin 64) (i : Fin 50) (k : Fin 4096) : BitVec 32 :=
  binOf (cosine (a.q b i) (a.d b k))

/-- Both tokens are present. -/
def live (b : Fin 64) (i : Fin 50) (k : Fin 4096) : Prop := a.qi b i ≠ 0#32 ∧ a.di b k ≠ 0#32

/-- How many present document tokens fall in bin `n` of a present query token. -/
noncomputable def count (b : Fin 64) (i : Fin 50) (n : ℕ) : ℕ :=
  open Classical in (Finset.univ.filter fun k => a.live b i k ∧ (a.bin b i k).toNat = n).card

/-- The logarithm of a bin's count. -/
noncomputable def feature (b : Fin 64) (i : Fin 50) (n : Fin 11) : EReal :=
  Ideal.log (((a.count b i n : ℝ) : EReal) + lit 0x3727C5AC#32)

/-- Where bin `n` of query token `i` stands among the 550 weights. -/
def flat11 (i : Fin 50) (n : Fin 11) : Fin 550 := ⟨11 * i + n, by omega⟩

/-- Where coordinate `e` of query token `i` stands among the 2500 weights. -/
def flat50 (i e : Fin 50) : Fin 2500 := ⟨50 * i + e, by omega⟩

/-- The feed-forward layer, without its bias. -/
noncomputable def score (b : Fin 64) : EReal := ∑ i, ∑ n, a.feature b i n * a.W (flat11 i n)

/-- The gate's logit. -/
noncomputable def logit (b : Fin 64) : EReal := ∑ i, ∑ e, a.q b i e * a.G (flat50 i e)

/-- The largest logit of the batch. -/
noncomputable def top : EReal := Finset.univ.sup a.logit

/-- The exponential of a logit's distance from the largest. -/
noncomputable def weight (b : Fin 64) : EReal := Ideal.exp (a.logit b - a.top)

/-- The softmax over the batch. -/
noncomputable def gate (b : Fin 64) : EReal := Ideal.div (a.weight b) (∑ j, a.weight j)

/-- The network's result: the biased score times the sum of the softmax. -/
noncomputable def out (b : Fin 64) : EReal := (a.score b + a.b1) * ∑ j, a.gate j

/-- No even bin of any query token holds all 4096 document tokens. -/
def NoFullEvenBin : Prop := ∀ b i (g : Fin 5), a.count b i (2 * g) < 4096

end Args

end Cert.Drmm
-- ==== Proof.Cosine.lean ====
/-
# The cosine stays within one, so its bin is one of the eleven

Whatever the two rows hold, infinities included, the quotients are real and their squares sum to at most one.
Cauchy and Schwarz bound the cosine; the bin of a number in [-1, 1] is a natural number up to ten.
-/
module

public import Idealize.ShloMosaic.PureOps.Ideal.Laws
public import proofs.«01_k».proof.Proof.Spec

@[expose] public section

open Idealize.ShloMosaic

namespace Cert.Drmm

/-- `eps` is a positive real. -/
theorem eps_pos : ∃ r : ℝ, 0 < r ∧ eps = r := by
  refine ⟨(2 ^ 23 + 6368787 : ℝ) * 2 ^ (-67 : ℤ), by positivity, ?_⟩
  simp [eps, lit, Ideal.ofBits, Ideal.ieee, -EReal.coe_mul]; norm_num

/-- The word of 1.00001 as a real. -/
theorem lit_shift : lit 0x3F800054#32 = ((8388692 / 8388608 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_ten : lit 0x41200000#32 = ((10 : ℝ) : EReal) := by
  simp [lit, Ideal.ofBits, Ideal.ieee, -EReal.coe_mul]; norm_num

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A square is not negative. -/
theorem sq_nonneg' (x : EReal) : 0 ≤ x * x := by
  induction x with
  | bot => simp
  | top => simp
  | coe r => rw [← EReal.coe_mul]; exact_mod_cast mul_self_nonneg r

/-- The quotients of a row are reals whose squares sum to at most one. -/
theorem normed_real (x : Fin 50 → EReal) :
    ∃ y : Fin 50 → ℝ, (∀ e, normed x e = y e) ∧ ∑ e, y e ^ 2 ≤ 1 := by
  obtain ⟨ε, hε, he⟩ := eps_pos
  by_cases hx : ∀ k, ∃ r : ℝ, x k = r
  · choose r hr using hx
    have hS : (∑ k, x k * x k) = ((∑ k, r k * r k : ℝ) : EReal) := by
      rw [coe_sum]; exact Finset.sum_congr rfl fun k _ => by rw [hr k, EReal.coe_mul]
    have hS0 : 0 ≤ ∑ k, r k * r k := Finset.sum_nonneg fun k _ => mul_self_nonneg _
    set N : ℝ := Real.sqrt (∑ k, r k * r k) + ε with hN
    have hNpos : 0 < N := by positivity
    refine ⟨fun e => r e * (1 / N), fun e => ?_, ?_⟩
    · rw [normed, hS, Ideal.sqrt_coe, if_neg (not_lt.mpr hS0), he, ← EReal.coe_add, ← hN, Ideal.div_coe hNpos.ne',
        hr e, EReal.coe_mul]
    · have hle : ∑ k, r k * r k ≤ N ^ 2 := by
        have h1 : Real.sqrt (∑ k, r k * r k) ^ 2 = ∑ k, r k * r k := Real.sq_sqrt hS0
        have h2 : 0 ≤ Real.sqrt (∑ k, r k * r k) := Real.sqrt_nonneg _
        nlinarith
      have : ∑ e, (r e * (1 / N)) ^ 2 = (∑ k, r k * r k) / N ^ 2 := by
        rw [Finset.sum_div]
        exact Finset.sum_congr rfl fun e _ => by field_simp
      rw [this]
      exact (div_le_one (by positivity)).mpr hle
  · push Not at hx
    obtain ⟨k, hk⟩ := hx
    have hkk : x k * x k = ⊤ := by
      generalize x k = z at hk
      induction z with
      | bot => simp
      | top => simp
      | coe r => exact absurd rfl (hk r)
    have hS : (∑ k, x k * x k) = ⊤ := by
      refine top_le_iff.mp (hkk ▸ ?_)
      exact Finset.single_le_sum (f := fun k => x k * x k) (fun i _ => sq_nonneg' (x i)) (Finset.mem_univ k)
    refine ⟨fun _ => 0, fun e => ?_, by simp⟩
    rw [normed, hS, Ideal.sqrt_top, he, EReal.top_add_coe, Ideal.div, if_neg (by simp)]
    simp

/-- The cosine of two rows is a real between minus one and one. -/
theorem cosine_real (x y : Fin 50 → EReal) : ∃ s : ℝ, cosine x y = s ∧ -1 ≤ s ∧ s ≤ 1 := by
  obtain ⟨u, hu, hu1⟩ := normed_real x
  obtain ⟨v, hv, hv1⟩ := normed_real y
  refine ⟨∑ e, u e * v e, ?_, abs_le.mp ?_⟩
  · rw [cosine, coe_sum]
    exact Finset.sum_congr rfl fun e _ => by rw [hu, hv, EReal.coe_mul]
  · have h := Finset.sum_mul_sq_le_sq_mul_sq Finset.univ u v
    have h0 : 0 ≤ ∑ e, v e ^ 2 := Finset.sum_nonneg fun e _ => sq_nonneg _
    refine abs_le_one_iff_mul_self_le_one.mpr ?_
    nlinarith

/-- The clamp to the 32-bit range leaves a small natural number as it is. -/
theorem clamp_small (n : ℕ) (h : n ≤ 2 ^ 30) :
    max (-((2 ^ (32 - 1) : ℕ) : ℤ)) (min (((2 ^ (32 - 1) : ℕ) : ℤ) - 1) (n : ℤ)) = n := by
  norm_num
  omega

/-- The bin of a number between minus one and one is at most ten. -/
theorem binOf_real (s : ℝ) (h0 : -1 ≤ s) (h1 : s ≤ 1) : ∃ n : ℕ, n ≤ 10 ∧ binOf s = BitVec.ofNat 32 n := by
  set r : ℝ := (s + 8388692 / 8388608) * (1 / 2) * 10 with hr
  have hr0 : 0 ≤ r := by rw [hr]; linarith
  have hr1 : r < 11 := by rw [hr]; linarith
  refine ⟨⌊r⌋₊, ?_, ?_⟩
  · have := (Nat.floor_lt hr0 (n := 11)).mpr (by exact_mod_cast hr1)
    omega
  · have hv : Ideal.div ((s : EReal) + lit 0x3F800054#32) (lit 0x40000000#32) * lit 0x41200000#32 = ((r : ℝ) : EReal) := by
      rw [lit_shift, lit_two, lit_ten, Ideal.div_coe (by norm_num), ← EReal.coe_add, ← EReal.coe_mul, ← EReal.coe_mul]
    have hf : ⌊r⌋ = (⌊r⌋₊ : ℤ) := (Int.natCast_floor_eq_floor hr0).symm
    have hlt : ⌊r⌋₊ < 11 := (Nat.floor_lt hr0).mpr (by exact_mod_cast hr1)
    rw [binOf, hv, Ideal.fptosi, Ideal.toIntClamped_coe, if_pos hr0, hf]
    rw [clamp_small _ (by omega), BitVec.ofInt_natCast]

/-- The bin of a cosine is at most ten. -/
theorem bin_le (a : Args) (b : Fin 64) (i : Fin 50) (k : Fin 4096) :
    ∃ n : ℕ, n ≤ 10 ∧ a.bin b i k = BitVec.ofNat 32 n := by
  obtain ⟨s, hs, h0, h1⟩ := cosine_real (a.q b i) (a.d b k)
  rw [Args.bin, hs]
  exact binOf_real s h0 h1

end Cert.Drmm
-- ==== Proof.Count.lean ====
/-
# Two counts in one sum

The kernel counts the documents of bins `2g` and `2g+1` with one sum: a document adds 1 when its bin is even and
4096 when it is odd. Short of 4096 documents in the even bin, the quotient by 4096 is the odd bin's count and the
rest is the even one's. The last bin's count is what the ten others leave of all documents.
-/
module

public import proofs.«01_k».proof.Proof.Cosine

@[expose] public section

open Idealize.ShloMosaic

namespace Cert.Drmm

/-- The weight of a document token: one when it is present. -/
noncomputable def weightOf (x : BitVec 32) : EReal := if x ≠ 0#32 then 1 else 0

/-- How many present documents have bin `n`. -/
noncomputable def tally (w : Fin 4096 → BitVec 32) (B : Fin 4096 → BitVec 32) (n : ℕ) : ℕ :=
  (Finset.univ.filter fun k => w k ≠ 0#32 ∧ (B k).toNat = n).card

/-- What one document adds to the sum of bins `c - 1` and `c`. -/
noncomputable def packedTerm (c x : BitVec 32) : EReal :=
  if x ||| 1#32 = c then lit 0x3F800000#32 + lit 0x457FF000#32 * (((x &&& 1#32).toInt : ℝ) : EReal) else lit 0x00000000#32

/-- The sum of bins `c - 1` and `c`. -/
noncomputable def packed (w B : Fin 4096 → BitVec 32) (c : BitVec 32) : EReal :=
  ∑ k, packedTerm c (B k) * weightOf (w k)

/-- The odd bin's count, read off the sum. -/
noncomputable def oddOf (x : EReal) : EReal := (((Ideal.fptosi 32 (x * lit 0x39800000#32)).toInt : ℝ) : EReal)

/-- The even bin's count, read off the sum. -/
noncomputable def evenOf (x : EReal) : EReal := x - lit 0x45800000#32 * oddOf x

theorem lit_zero : lit 0x00000000#32 = 0 := by
  simp [lit, Ideal.ofBits, Ideal.ieee]

theorem lit_one : lit 0x3F800000#32 = ((1 : ℝ) : EReal) := by
  simp [lit, Ideal.ofBits, Ideal.ieee, -EReal.coe_mul]; norm_num

theorem lit_4095 : lit 0x457FF000#32 = ((4095 : ℝ) : EReal) := by
  simp [lit, Ideal.ofBits, Ideal.ieee, -EReal.coe_mul]; norm_num

theorem lit_4096 : lit 0x45800000#32 = ((4096 : ℝ) : EReal) := by
  simp [lit, Ideal.ofBits, Ideal.ieee, -EReal.coe_mul]; norm_num

theorem lit_inv4096 : lit 0x39800000#32 = ((1 / 4096 : ℝ) : EReal) := by
  simp [lit, Ideal.ofBits, Ideal.ieee, -EReal.coe_mul]; norm_num

/-- On the eleven bins, a document's addition to the sum of bins `2g` and `2g+1`. -/
theorem packedTerm_eq (g : Fin 5) (n : ℕ) (hn : n ≤ 10) :
    packedTerm (BitVec.ofNat 32 (2 * g + 1)) (BitVec.ofNat 32 n)
      = (((if n = 2 * g then 1 else 0) + 4096 * (if n = 2 * g + 1 then 1 else 0) : ℝ) : EReal) := by
  have key : ∀ (g : Fin 5) (n : Fin 11),
      ((BitVec.ofNat 32 n ||| 1#32 = BitVec.ofNat 32 (2 * g + 1)) ↔ ((n : ℕ) = 2 * g ∨ (n : ℕ) = 2 * g + 1))
      ∧ (BitVec.ofNat 32 n &&& 1#32).toInt = ((n : ℕ) % 2 : ℕ) := by decide
  obtain ⟨h1, h2⟩ := key g ⟨n, by omega⟩
  simp only at h1 h2
  rw [packedTerm, lit_zero, lit_one, lit_4095, h2, ← EReal.coe_mul, ← EReal.coe_add]
  by_cases he : n = 2 * g
  · have h3 : n % 2 = 0 := by omega
    rw [if_pos (h1.mpr (Or.inl he)), h3, if_pos he, if_neg (by omega)]
    norm_num
  · by_cases ho : n = 2 * g + 1
    · have h3 : n % 2 = 1 := by omega
      rw [if_pos (h1.mpr (Or.inr ho)), h3, if_neg he, if_pos ho]
      norm_num
    · rw [if_neg (fun h => (h1.mp h).elim he ho), if_neg he, if_neg ho]
      norm_num

/-- A count as a sum of ones. -/
theorem tally_sum (w B : Fin 4096 → BitVec 32) (n : ℕ) :
    (tally w B n : ℝ) = ∑ k, if w k ≠ 0#32 ∧ (B k).toNat = n then (1 : ℝ) else 0 := by
  rw [tally, Finset.sum_boole]

/-- The sum of a pair of bins, as the two counts. -/
theorem packed_eq (w B : Fin 4096 → BitVec 32) (hB : ∀ k, ∃ n : ℕ, n ≤ 10 ∧ B k = BitVec.ofNat 32 n) (g : Fin 5) :
    packed w B (BitVec.ofNat 32 (2 * g + 1))
      = ((tally w B (2 * g) + 4096 * tally w B (2 * g + 1) : ℝ) : EReal) := by
  rw [tally_sum, tally_sum, Finset.mul_sum, ← Finset.sum_add_distrib, coe_sum, packed]
  refine Finset.sum_congr rfl fun k _ => ?_
  obtain ⟨n, hn, hk⟩ := hB k
  have hnat : (B k).toNat = n := by rw [hk, BitVec.toNat_ofNat]; omega
  rw [hnat, hk, packedTerm_eq g n hn, weightOf]
  by_cases hw : w k = 0#32
  · simp [hw]
  · simp [hw]

/-- The quotient of the sum by 4096 is the odd bin's count. -/
theorem oddOf_eq (E O : ℕ) (hE : E < 4096) (hO : O ≤ 4096) : oddOf (((E + 4096 * O : ℝ)) : EReal) = ((O : ℝ) : EReal) := by
  have hr0 : (0 : ℝ) ≤ (E + 4096 * O) * (1 / 4096) := by positivity
  have hfl : ⌊((E + 4096 * O : ℝ)) * (1 / 4096)⌋ = (O : ℤ) := by
    rw [Int.floor_eq_iff]
    have : (E : ℝ) < 4096 := by exact_mod_cast hE
    have h0 : (0 : ℝ) ≤ E := by positivity
    constructor
    · push_cast; linarith
    · push_cast; linarith
  rw [oddOf, lit_inv4096, ← EReal.coe_mul, Ideal.fptosi, Ideal.toIntClamped_coe, if_pos hr0, hfl,
    clamp_small _ (by omega), BitVec.ofInt_natCast, BitVec.toInt_ofNat']
  have : ((O % 2 ^ 32 : ℕ) : ℤ).bmod (2 ^ 32) = (O : ℤ) := by
    rw [Int.bmod_def]; omega
  first
    | (rw [this]; norm_num)
    | (have h2 : (O : ℤ).bmod (2 ^ 32) = (O : ℤ) := by rw [Int.bmod_def]; omega
       rw [h2]; norm_num)

/-- What the quotient leaves is the even bin's count. -/
theorem evenOf_eq (E O : ℕ) (hE : E < 4096) (hO : O ≤ 4096) : evenOf (((E + 4096 * O : ℝ)) : EReal) = ((E : ℝ) : EReal) := by
  rw [evenOf, oddOf_eq E O hE hO, lit_4096, ← EReal.coe_mul, ← EReal.coe_sub]
  congr 1
  ring

theorem tally_le (w B : Fin 4096 → BitVec 32) (n : ℕ) : tally w B n ≤ 4096 :=
  (Finset.card_le_univ _).trans_eq (by simp)

/-- The column of the ten packed counts: bin `2g` by what is left, bin `2g+1` by the quotient. -/
noncomputable def tenOf (w B : Fin 4096 → BitVec 32) (n : Fin 10) : EReal :=
  if (n : ℕ) % 2 = 0 then evenOf (packed w B (BitVec.ofNat 32 (2 * ((n : ℕ) / 2) + 1)))
  else oddOf (packed w B (BitVec.ofNat 32 (2 * ((n : ℕ) / 2) + 1)))

/-- The ten packed counts are the counts. -/
theorem tenOf_eq (w B : Fin 4096 → BitVec 32) (hB : ∀ k, ∃ n : ℕ, n ≤ 10 ∧ B k = BitVec.ofNat 32 n)
    (hE : ∀ g : Fin 5, tally w B (2 * g) < 4096) (n : Fin 10) : tenOf w B n = ((tally w B n : ℝ) : EReal) := by
  have hp := packed_eq w B hB ⟨(n : ℕ) / 2, by omega⟩
  have he := hE ⟨(n : ℕ) / 2, by omega⟩
  simp only at hp he
  rw [tenOf, hp, oddOf_eq _ _ he (tally_le _ _ _), evenOf_eq _ _ he (tally_le _ _ _)]
  by_cases hn : (n : ℕ) % 2 = 0
  · have h2 : 2 * ((n : ℕ) / 2) = n := by omega
    rw [if_pos hn, h2]
  · have h2 : 2 * ((n : ℕ) / 2) + 1 = n := by omega
    rw [if_neg hn, h2]

/-- The eleven counts: the ten, and what they leave of all present documents. -/
noncomputable def histOf (w B : Fin 4096 → BitVec 32) (n : Fin 11) : EReal :=
  if h : (n : ℕ) < 10 then tenOf w B ⟨n, h⟩ else (∑ k, weightOf (w k)) - ∑ n, tenOf w B n

/-- The eleven counts of the kernel are the counts. -/
theorem histOf_eq (w B : Fin 4096 → BitVec 32) (hB : ∀ k, ∃ n : ℕ, n ≤ 10 ∧ B k = BitVec.ofNat 32 n)
    (hE : ∀ g : Fin 5, tally w B (2 * g) < 4096) (n : Fin 11) : histOf w B n = ((tally w B n : ℝ) : EReal) := by
  rw [histOf]
  by_cases h : (n : ℕ) < 10
  · rw [dif_pos h, tenOf_eq w B hB hE]
  · have hn : (n : ℕ) = 10 := by omega
    have hall : (∑ k, weightOf (w k)) = ((∑ n : Fin 11, (tally w B n : ℝ) : ℝ) : EReal) := by
      simp only [tally_sum]
      rw [Finset.sum_comm, coe_sum]
      refine Finset.sum_congr rfl fun k _ => ?_
      obtain ⟨m, hm, hk⟩ := hB k
      have hnat : (B k).toNat = m := by rw [hk, BitVec.toNat_ofNat]; omega
      by_cases hw : w k = 0#32
      · simp [weightOf, hw]
      · rw [weightOf, if_pos hw, hnat]
        have : ∀ n : Fin 11, (if w k ≠ 0#32 ∧ m = (n : ℕ) then (1 : ℝ) else 0)
            = if (⟨m, by omega⟩ : Fin 11) = n then 1 else 0 := fun n => by
          simp [hw, Fin.ext_iff]
        simp only [this, Finset.sum_ite_eq, Finset.mem_univ, if_true]
        rfl
    have hten : (∑ n, tenOf w B n) = ((∑ n : Fin 10, (tally w B n : ℝ) : ℝ) : EReal) := by
      rw [coe_sum]
      exact Finset.sum_congr rfl fun n _ => tenOf_eq w B hB hE n
    rw [dif_neg h, hall, hten, ← EReal.coe_sub, hn, Fin.sum_univ_castSucc]
    simp

/-- The kernel's eleven counts times the query token's weight are the network's counts. -/
theorem histOf_weight (a : Args) (hp : a.NoFullEvenBin) (b : Fin 64) (i : Fin 50) (n : Fin 11) :
    histOf (a.di b) (a.bin b i) n * weightOf (a.qi b i) = ((a.count b i n : ℝ) : EReal) := by
  by_cases hq : a.qi b i = 0#32
  · have : a.count b i n = 0 := by
      unfold Args.count
      classical
      rw [Finset.card_eq_zero, Finset.filter_eq_empty_iff]
      exact fun k _ h => h.1.1 hq
    rw [this, weightOf, if_neg (not_not.mpr hq), mul_zero]
    simp
  · have hc : ∀ n, tally (a.di b) (a.bin b i) n = a.count b i n := fun n => by
      classical
      unfold Args.count tally
      congr 1
      ext k
      simp [Args.live, hq]
    rw [weightOf, if_pos hq, mul_one, histOf_eq _ _ (bin_le a b i) (fun g => by rw [hc]; exact hp b i g), hc]

end Cert.Drmm
-- ==== Proof.Body.lean ====
/-
  The body of the fused kernel at one grid point, run once for all: what it leaves in the two
  carried score columns, and — at the last point — in the result's block.
-/
module

public import proofs.«01_k».proof.Proof.Gen.KernelIdeal.Frame
public import proofs.«01_k».proof.Proof.Gen.KernelIdeal.Skeleton
public import Idealize.ShloMosaic.Lib.ValueIdxCore
public import Idealize.ShloMosaic.Lib.VecWindow
public import Idealize.ShloMosaic.Lib.Pipeline.ValueKit.Acc
public import Idealize.ShloMosaic.Lib.WritesUnit

@[expose] public section

set_option maxRecDepth 16384

noncomputable section

namespace Cert.KernelIdeal.Drmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The logarithm of the padded histogram of one query batch, as the body stores it. -/
def logHist (x0 : Vec F S1x50x50 .bf16) (x1 : Vec F S1x4096x50 .bf16) (x3 : Vec F S1x50x1 .i32) (x4 : Vec F S1x1x4096 .i32) :
    FVec F S50x11 .bf16 :=
  k0_pay22 (k0_pay5 x3) (k0_pay6 x4) (k0_pay8 x0 x1) (k0_pay11 (k0_pay9 x0 x1) k0_pay10)
    (k0_pay13 (k0_pay6 x4) (k0_pay8 x0 x1) (k0_pay9 x0 x1) k0_pay10) (k0_pay14 (k0_pay6 x4) (k0_pay8 x0 x1) (k0_pay9 x0 x1) k0_pay10)
    (k0_pay16 (k0_pay6 x4) (k0_pay8 x0 x1) (k0_pay9 x0 x1) k0_pay10) (k0_pay17 (k0_pay6 x4) (k0_pay8 x0 x1) (k0_pay9 x0 x1) k0_pay10)
    (k0_pay19 (k0_pay6 x4) (k0_pay8 x0 x1) (k0_pay9 x0 x1) k0_pay10) (k0_pay20 (k0_pay6 x4) (k0_pay8 x0 x1) (k0_pay9 x0 x1) k0_pay10)
    (k0_pay21 (k0_pay6 x4) (k0_pay8 x0 x1) (k0_pay9 x0 x1) k0_pay10)

/-- The feed-forward score of one batch: the logarithms against the weights, summed. -/
def score (x0 : Vec F S1x50x50 .bf16) (x1 : Vec F S1x4096x50 .bf16) (x3 : Vec F S1x50x1 .i32) (x4 : Vec F S1x1x4096 .i32)
    (x5 : Vec F S50x11 .f32) : FVec F S1x1 .f32 :=
  k0_pay1 (k0_pay23 (logHist x0 x1 x3 x4) x5)

/-- The gate's logit of one batch: the query against the gate's weights, summed. -/
def logit (x2 : Vec F S1x50x50 .f32) (x6 : Vec F S50x50 .f32) : FVec F S1x1 .f32 := k0_pay2 (k0_pay4 x2) x6

/-- A column with the entry of point `i` replaced by `v`. -/
def setRow (i : grid0.Coords) (v : FVec F S1x1 .f32) (d : Vec F S64x1 .f32) : Vec F S64x1 .f32 :=
  fun j => if (j 0).val = (i 0).val then v (ix2 0 0) else d j

/-- The result's block after the point: at the last point the gated scores, elsewhere what it held. -/
def outBlock (i : grid0.Coords) (s l : Vec F S64x1 .f32) (b : Vec F S1x1 .f32) (y : Vec F S64x1 .f32) : Vec F S64x1 .f32 :=
  if k0_cond1 i = 1#1 then k0_pay3 l s b else y

/-- The row a point's column store writes. -/
theorem off1_eq (i : grid0.Coords) : k0_off1 i = ![(i 0).val, 0] := by
  have h : (i 0).val < 64 := (i 0).isLt
  have e : (BitVec.ofNat 32 (i 0).val).toNat = (i 0).val := by
    rw [BitVec.toNat_ofNat, Nat.mod_eq_of_lt (by omega)]
  funext a
  fin_cases a
  · exact e
  · rfl

/-- A column after the store of one entry reads as `setRow`. -/
theorem read_setRow {a : Memref sig .tc .vmem S64x1 .f32} (h : a.IsWhole) (i : grid0.Coords) (y : Vec F S64x1 .f32)
    (inb : ∀ b, k0_off1 i b + S1x1.size b ≤ S64x1.size b) (v : FVec F S1x1 .f32) :
    a.view.read (Elt F) (a.view.writes (Elt F) (h.unread y) [⟨Rect.unit (s := S64x1) (k0_off1 i) (no_index S1x1.size) inb, v⟩])
      = setRow i v y := by
  funext j
  have h1 : (j 1).val = 0 := by have : (j 1).val < 1 := (j 1).isLt; omega
  unfold setRow
  split
  · rename_i e
    exact View.read_writes_cons_rows_of_mem (Val := Elt F) (e := .f32) a.view _ inb v [] j (ix2 0 0) (off1_eq i) (by rw [e]; rfl) (by rw [h1]; rfl)
  · rename_i e
    rw [View.read_writes_cons_rows_of_not_mem (Val := Elt F) (e := .f32) a.view _ inb v [] j (off1_eq i) (W := 1) rfl (by omega), View.writes_nil, h.read_unread]

set_option maxHeartbeats 4000000 in
/-- The body at any point: the inputs stay, the two columns get the point's score and logit, the
    block of logarithms is overwritten, and the result's block is `outBlock`. -/
theorem body_run (c : Dev nD) (i : grid0.Coords) (a1 : Memref sig .tc .vmem S1x50x50 .bf16) (h1 : a1.IsWhole) (a2 : Memref sig .tc .vmem S1x4096x50 .bf16) (h2 : a2.IsWhole) (a3 : Memref sig .tc .vmem S1x50x50 .f32) (h3 : a3.IsWhole) (a4 : Memref sig .tc .vmem S1x50x1 .i32) (h4 : a4.IsWhole) (a5 : Memref sig .tc .vmem S1x1x4096 .i32) (h5 : a5.IsWhole) (a6 : Memref sig .tc .vmem S50x11 .f32) (h6 : a6.IsWhole) (a7 : Memref sig .tc .vmem S50x50 .f32) (h7 : a7.IsWhole) (a8 : Memref sig .tc .vmem S1x1 .f32) (h8 : a8.IsWhole) (a9 : Memref sig .tc .vmem S64x1 .f32) (h9 : a9.IsWhole) (a10 : Memref sig .tc .vmem S64x1 .f32) (h10 : a10.IsWhole) (a11 : Memref sig .tc .vmem S64x1 .f32) (h11 : a11.IsWhole) (a12 : Memref sig .tc .vmem S50x11 .bf16) (h12 : a12.IsWhole)
    (x0 : Vec F S1x50x50 .bf16) (x1 : Vec F S1x4096x50 .bf16) (x2 : Vec F S1x50x50 .f32) (x3 : Vec F S1x50x1 .i32) (x4 : Vec F S1x1x4096 .i32)
    (x5 : Vec F S50x11 .f32) (x6 : Vec F S50x50 .f32) (x7 : Vec F S1x1 .f32) (y9 y10 y11 : Vec F S64x1 .f32) (y12 : Vec F S50x11 .bf16)
    (E : Set ℕ) (K : PUnit → sProp 𝕄) :
    iprop(owns (c : Thread nD τ) a1 fullShare x0 ∗ owns (c : Thread nD τ) a2 fullShare x1 ∗ owns (c : Thread nD τ) a3 fullShare x2 ∗
        owns (c : Thread nD τ) a4 fullShare x3 ∗ owns (c : Thread nD τ) a5 fullShare x4 ∗ owns (c : Thread nD τ) a6 fullShare x5 ∗
        owns (c : Thread nD τ) a7 fullShare x6 ∗ owns (c : Thread nD τ) a8 fullShare x7 ∗ owns (c : Thread nD τ) a9 fullShare y9
        ∗ owns (c : Thread nD τ) a10 fullShare y10 ∗ owns (c : Thread nD τ) a11 fullShare y11 ∗ owns (c : Thread nD τ) a12 fullShare y12
        ∗ (iprop(owns (c : Thread nD τ) a1 fullShare x0 ∗ owns (c : Thread nD τ) a2 fullShare x1 ∗ owns (c : Thread nD τ) a3 fullShare x2 ∗
        owns (c : Thread nD τ) a4 fullShare x3 ∗ owns (c : Thread nD τ) a5 fullShare x4 ∗ owns (c : Thread nD τ) a6 fullShare x5 ∗
        owns (c : Thread nD τ) a7 fullShare x6 ∗ owns (c : Thread nD τ) a8 fullShare x7 ∗
        owns (c : Thread nD τ) a9 fullShare (outBlock i (setRow i (score x0 x1 x3 x4 x5) y10) (setRow i (logit x2 x6) y11) x7 y9)
        ∗ owns (c : Thread nD τ) a10 fullShare (setRow i (score x0 x1 x3 x4 x5) y10)
        ∗ owns (c : Thread nD τ) a11 fullShare (setRow i (logit x2 x6) y11)
        ∗ (∃ d, owns (c : Thread nD τ) a12 fullShare d)) -∗ K ⟨⟩))
      ⊢ wp frame (wpE (defs₀ (F := F)) Variants.none c none) E
          (cc0__drmm_step i a1 h1 a2 h2 a3 h3 a4 h4 a5 h5 a6 h6 a7 h7 a8 h8 a9 h9 a10 h10 a11 h11 a12 h12) K := by
  simp only [cc0__drmm_step_eq_skeleton]; unfold cc0__drmm_step_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := h9.eq_unread hf8; obtain rfl := h10.eq_unread hf9; obtain rfl := h11.eq_unread hf10; obtain rfl := h12.eq_unread hf11
  clear hf0 hf1 hf2 hf3 hf4 hf5 hf6 hf7 hf8 hf9 hf10 hf11
  by_cases hc0 : k0_cond1 i = 1#1
  all_goals
    sl_exec (disch := first | sl_exact hc0)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; swap; · iexact H8
      ipureintro
      unfold outBlock
      first
      | (rw [if_neg hc0]; exact h9.read_unread _)
      | (rw [if_pos hc0, View.read_writes_full]
         sl_unfold_words
         simp (disch := decide) only [score, logHist, logit, View.readAt_eq_ld,
           View.ld_unit_lit', View.readCov_unit_lit', h1.read_unread, h2.read_unread,
           h3.read_unread, h4.read_unread, h5.read_unread, h6.read_unread, h7.read_unread,
           h8.read_unread]
         exact congrArg₂ (k0_pay3 · · x7) (read_setRow h11 i y11 _ _)
           (read_setRow h10 i y10 _ _))
    isplitl [H9]
    · iexists _; isplitr; swap; · iexact H9
      ipureintro
      refine (read_setRow h10 i y10 _ _).trans ?_
      sl_unfold_words
      simp (disch := decide) only [score, logHist, logit, View.readAt_eq_ld, View.ld_unit_lit', View.readCov_unit_lit', read_setRow, h1.read_unread, h2.read_unread, h3.read_unread, h4.read_unread,
        h5.read_unread, h6.read_unread, h7.read_unread, h8.read_unread]
    isplitl [H10]
    · iexists _; isplitr; swap; · iexact H10
      ipureintro
      refine (read_setRow h11 i y11 _ _).trans ?_
      sl_unfold_words
      simp (disch := decide) only [score, logHist, logit, View.readAt_eq_ld, View.ld_unit_lit', View.readCov_unit_lit', read_setRow, h1.read_unread, h2.read_unread, h3.read_unread, h4.read_unread,
        h5.read_unread, h6.read_unread, h7.read_unread, h8.read_unread]
    iexists _, _; isplitr; swap; · iexact H11
    ipureintro; rfl

end Cert.KernelIdeal.Drmm

end
-- ==== Proof.Payload.lean ====
/-
# What the kernel computes from its blocks

The body's values, read over the extended reals at an index: the bin of a pair of rows, the packed sums, the eleven
counts, the feed-forward score and the gate's logit of one batch, and the gated scores of all batches.
-/
module

public import proofs.«01_k».proof.Proof.Count
public import proofs.«01_k».proof.Proof.Body
public import Idealize.ShloMosaic.Lib.MatmulPlain
public import Idealize.ShloMosaic.Lib.Pipeline.Value
public import Idealize.ShloMosaic.PureOps.Reduce

@[expose] public section

noncomputable section

namespace Cert.KernelIdeal.Drmm

open Cert.KernelIdeal Cert.KernelIdeal.Gen Cert.Drmm
open Idealize.ShloMosaic Idealize.ShloMosaic.ValueIdx

/-! ## Reductions over a whole plane -/

/-- A plane's total, taken with a leading axis of one. -/
theorem total_plane {a b : ℕ} (v : FVec Ideal ⟨2, ![a, b]⟩ .f32) (h1 : Shape.ShapeCasts ⟨2, ![a, b]⟩ ⟨3, ![1, a, b]⟩)
    (hr : Shape.Reduces ⟨3, ![1, a, b]⟩ [1, 2] S1) (hφ : FKind.Formats .f32)
    (hacc : (0x00000000#32 : BitVec 32) = FKind.add.neutral .f32 hφ) (h3 : Shape.ShapeCasts S1 S1x1x1)
    (hp : ∀ d, (![0, 0, 0] : Fin 3 → ℕ) d < S1x1x1.size d) :
    extractAt ![0, 0, 0] (shapeCast S1x1x1 (multiReduction .add [1, 2] S1 (shapeCast ⟨3, ![1, a, b]⟩ v h1) 0x00000000#32 hr hφ hacc) h3) hp
      = ∑ i, ∑ j, v (ix2 i j) := by
  unfold extractAt
  rw [shapeCast, Ideal.multiReduction_add_total _ _ hr (by decide) hφ hacc, ← sum_idx2]
  exact Equiv.sum_comp (Shape.reshapeEquiv h1) v

/-- A column's largest entry, taken with a leading axis of one. -/
theorem max_column (v : FVec Ideal S64x1 .f32) (h1 : Shape.ShapeCasts S64x1 S1x64x1)
    (hr : Shape.Reduces S1x64x1 [1, 2] S1) (hφ : FKind.Formats .f32)
    (hacc : (0xFF800000#32 : BitVec 32) = FKind.maximumf.neutral .f32 hφ) (h3 : Shape.ShapeCasts S1 S1x1x1)
    (hp : ∀ d, (![0, 0, 0] : Fin 3 → ℕ) d < S1x1x1.size d) :
    extractAt ![0, 0, 0] (shapeCast S1x1x1 (multiReduction .maximumf [1, 2] S1 (shapeCast S1x64x1 v h1) 0xFF800000#32 hr hφ hacc) h3) hp
      = Finset.univ.sup fun j : Fin 64 => v (ix2 j 0) := by
  unfold extractAt
  rw [shapeCast, multiReduction_maximumf_eq_fold]
  have hb : FloatOps.ofBits (F := Ideal) .f32 0xFF800000#32 = (⊥ : EReal) := by
    simp [Ideal.ofBits, Ideal.ieee]
  rw [hb]
  show Finset.sup _ _ = _
  rw [Finset.filter_true_of_mem fun i _ => funext fun b => Fin.ext (by
    have h := (hr.drop i b).isLt
    have h' := Fin.isLt ((Shape.reshapeEquiv h3 fun a => ⟨(![0, 0, 0] : Fin 3 → ℕ) a, hp a⟩) b)
    have hs : S1.size b = 1 := (by decide : ∀ b, S1.size b = 1) b
    omega)]
  apply le_antisymm
  · refine Finset.sup_le fun i _ => ?_
    show v (Shape.reshapeEquiv h1 i) ≤ _
    rw [eq_ix2 (Shape.reshapeEquiv h1 i)]
    have h0 : (Shape.reshapeEquiv h1 i) 1 = (0 : Fin 1) := Subsingleton.elim (α := Fin 1) _ _
    rw [h0]
    exact Finset.le_sup (f := fun j : Fin 64 => v (ix2 j 0)) (Finset.mem_univ _)
  · refine Finset.sup_le fun j _ => ?_
    have := Finset.le_sup (f := shapeCast S1x64x1 v h1) (Finset.mem_univ ((Shape.reshapeEquiv h1).symm (ix2 j 0)))
    refine le_trans (le_of_eq ?_) this
    show _ = v (Shape.reshapeEquiv h1 _)
    rw [Equiv.apply_symm_apply]

/-! ## One batch -/

/-- The bin of query row `i` with document row `k`. -/
theorem bin_apply (x0 : Vec Ideal S1x50x50 .bf16) (x1 : Vec Ideal S1x4096x50 .bf16) (i : Fin 50) (k : Fin 4096) :
    k0_pay7 x0 x1 (ix2 i k) = binOf (∑ e : Fin 50, x0 (ix3 0 i e) * x1 (ix3 0 k e)) := by
  have hm : FloatOps.matmul dot_S50x50_S4096x50_S50x4096_1_1_0_0_n_n none
      (shapeCast S50x50 x0 shapeCasts_S1x50x50_S50x50 : FVec Ideal S50x50 .bf16)
      (shapeCast S4096x50 x1 shapeCasts_S1x4096x50_S4096x50 : FVec Ideal S4096x50 .bf16)
      (constant S50x4096 .f32 0x00000000#32) (ix2 i k) = ∑ e : Fin 50, x0 (ix3 0 i e) * x1 (ix3 0 k e) := by
    refine (Ideal.matmul_transposedRhs_apply none _ _ _ i k).trans ?_
    show Ideal.ofBits .f32 0x00000000#32 + _ = _
    rw [Ideal.ofBits_zero_f32, zero_add]
    refine Finset.sum_congr rfl fun e _ => ?_
    rw [shapeCast_apply x0 _ (ix2 i e) (ix3 0 i e) (by simp [Shape.rowMajor_val_two, Shape.rowMajor_val_three]),
      shapeCast_apply x1 _ (ix2 k e) (ix3 0 k e) (by simp [Shape.rowMajor_val_two, Shape.rowMajor_val_three])]
  exact congrArg binOf hm

/-- A nonzero test, widened and converted, is the token's weight. -/
theorem weight_word (x : BitVec 32) :
    ((((IntOp.cmpi .ne x 0#32).setWidth 32).toInt : ℝ) : EReal) = weightOf x := by
  unfold weightOf IntOp.cmpi
  by_cases h : x = 0#32
  · simp [h]
  · have hx : (x != 0#32) = true := bne_iff_ne.mpr h
    have hw : ((BitVec.ofBool true).setWidth 32).toInt = 1 := by decide
    simp only [hx, hw, ne_eq, h, not_false_eq_true, if_true]
    norm_num

/-- The weight of document token `k`. -/
theorem docWeight_apply (x4 : Vec Ideal S1x1x4096 .i32) (k : Fin 4096) :
    k0_pay6 (F := Ideal) x4 (ix2 0 k) = weightOf (x4 (ix3 0 0 k)) := by
  have h := shapeCast_apply x4 shapeCasts_S1x1x4096_S1x4096 (ix2 0 k) (ix3 0 0 k)
    (by simp [Shape.rowMajor_val_two, Shape.rowMajor_val_three])
  refine (weight_word (shapeCast S1x4096 x4 shapeCasts_S1x1x4096_S1x4096 (ix2 0 k))).trans ?_
  rw [h]

/-- The weight of query token `i`. -/
theorem queryWeight_apply (x3 : Vec Ideal S1x50x1 .i32) (i : Fin 50) :
    k0_pay5 (F := Ideal) x3 (ix2 i 0) = weightOf (x3 (ix3 0 i 0)) := by
  have h := shapeCast_apply x3 shapeCasts_S1x50x1_S50x1 (ix2 i 0) (ix3 0 i 0)
    (by simp [Shape.rowMajor_val_two, Shape.rowMajor_val_three])
  refine (weight_word (shapeCast S50x1 x3 shapeCasts_S1x50x1_S50x1 (ix2 i 0))).trans ?_
  rw [h]

/-- The bins of query row `i`. -/
def rowBins (x0 : Vec Ideal S1x50x50 .bf16) (x1 : Vec Ideal S1x4096x50 .bf16) (i : Fin 50) (k : Fin 4096) : BitVec 32 :=
  binOf (∑ e : Fin 50, x0 (ix3 0 i e) * x1 (ix3 0 k e))

/-- The ids of the documents' tokens. -/
def docIds (x4 : Vec Ideal S1x1x4096 .i32) (k : Fin 4096) : BitVec 32 := x4 (ix3 0 0 k)

/-- The column of the packed sums of bins `c - 1` and `c`. -/
def packedCol (x0 : Vec Ideal S1x50x50 .bf16) (x1 : Vec Ideal S1x4096x50 .bf16) (x4 : Vec Ideal S1x1x4096 .i32) (c : BitVec 32) :
    FVec Ideal S50x1 .f32 :=
  matmul dot_S50x4096_S1x4096_S50x1_1_1_0_0_n_n none
    (select (cmpi .eq (k0_pay8 x0 x1) (broadcast S50x4096 c)) (k0_pay11 (k0_pay9 x0 x1) k0_pay10)
      (broadcast S50x4096 (Scalar.ofBits .f32 0x00000000#32) : FVec Ideal S50x4096 .f32))
    (k0_pay6 x4) (constant S50x1 .f32 0x00000000#32)

/-- The odd bin's column of a column of packed sums. -/
def oddCol (r : FVec Ideal S50x1 .f32) : FVec Ideal S50x1 .f32 :=
  sitofp .f32 (fptosi 32 (mulf r (broadcast S50x1 (Scalar.ofBits .f32 0x39800000#32))))

/-- The even bin's column of a column of packed sums. -/
def evenCol (r : FVec Ideal S50x1 .f32) : FVec Ideal S50x1 .f32 :=
  subf r (mulf (broadcast S50x1 (Scalar.ofBits .f32 0x45800000#32)) (oddCol r))

/-- The packed sums, read at a query row. -/
theorem packedCol_apply (x0 : Vec Ideal S1x50x50 .bf16) (x1 : Vec Ideal S1x4096x50 .bf16) (x4 : Vec Ideal S1x1x4096 .i32)
    (c : BitVec 32) (i : Fin 50) : packedCol x0 x1 x4 c (ix2 i 0) = packed (docIds x4) (rowBins x0 x1 i) c := by
  refine (Ideal.matmul_transposedRhs_apply none _ _ _ i 0).trans ?_
  show Ideal.ofBits .f32 0x00000000#32 + _ = _
  rw [Ideal.ofBits_zero_f32, zero_add, packed]
  refine Finset.sum_congr rfl fun k _ => ?_
  rw [docWeight_apply]
  refine congrArg (· * weightOf _) ?_
  have hb : k0_pay7 x0 x1 (ix2 i k) = rowBins x0 x1 i k := bin_apply x0 x1 i k
  show Scalar.select (IntOp.cmpi .eq (k0_pay7 x0 x1 (ix2 i k) ||| 1#32) c)
    (lit 0x3F800000#32 + lit 0x457FF000#32 * ((((k0_pay7 x0 x1 (ix2 i k)) &&& 1#32).toInt : ℝ) : EReal)) (lit 0x00000000#32)
    = packedTerm c (rowBins x0 x1 i k)
  rw [hb, packedTerm]
  unfold IntOp.cmpi
  by_cases h : rowBins x0 x1 i k ||| 1#32 = c
  · rw [if_pos h, h, beq_self_eq_true]; rfl
  · rw [if_neg h, beq_eq_false_iff_ne.mpr h]; rfl

/-- The ten columns of the packed counts. -/
def tenCol (x0 : Vec Ideal S1x50x50 .bf16) (x1 : Vec Ideal S1x4096x50 .bf16) (x4 : Vec Ideal S1x1x4096 .i32) (n : Fin 10) :
    FVec Ideal S50x1 .f32 :=
  if (n : ℕ) % 2 = 0 then evenCol (packedCol x0 x1 x4 (BitVec.ofNat 32 (2 * ((n : ℕ) / 2) + 1)))
  else oddCol (packedCol x0 x1 x4 (BitVec.ofNat 32 (2 * ((n : ℕ) / 2) + 1)))

/-- A column of the packed counts, read at a query row. -/
theorem tenCol_apply (x0 : Vec Ideal S1x50x50 .bf16) (x1 : Vec Ideal S1x4096x50 .bf16) (x4 : Vec Ideal S1x1x4096 .i32)
    (n : Fin 10) (i : Fin 50) : tenCol x0 x1 x4 n (ix2 i 0) = tenOf (docIds x4) (rowBins x0 x1 i) n := by
  rw [tenCol, tenOf, ← packedCol_apply]
  split
  · rfl
  · rfl

/-- The ten columns side by side. -/
def tenHist (x0 : Vec Ideal S1x50x50 .bf16) (x1 : Vec Ideal S1x4096x50 .bf16) (x4 : Vec Ideal S1x1x4096 .i32) :
    FVec Ideal S50x10 .f32 :=
  concatenate S50x10 1 (List.ofFn fun n : Fin 10 => (⟨S50x1, tenCol x0 x1 x4 n⟩ : (s : Shape) × (s.Idx → EReal)))
    concatenates_S50x1_S50x1_S50x1_S50x1_S50x1_S50x1_S50x1_S50x1_S50x1_S50x1_S50x10_d1

/-- The ten columns, read at a query row and a bin. -/
theorem tenHist_apply (x0 : Vec Ideal S1x50x50 .bf16) (x1 : Vec Ideal S1x4096x50 .bf16) (x4 : Vec Ideal S1x1x4096 .i32)
    (i : Fin 50) (n : Fin 10) : tenHist x0 x1 x4 (ix2 i n) = tenOf (docIds x4) (rowBins x0 x1 i) n := by
  refine (concatenate_ofFn_unit_apply (t := S50x10) (s₁ := S50x1) 1 (tenCol x0 x1 x4) _ rfl rfl (ix2 i n) n rfl (ix2 i 0) ?_).trans
    (tenCol_apply x0 x1 x4 n i)
  intro b hb
  match b with
  | ⟨0, _⟩ => rfl
  | ⟨1, _⟩ => exact absurd rfl hb

/-- The column of the last bin: what the ten leave of all present documents. -/
def lastCol (x0 : Vec Ideal S1x50x50 .bf16) (x1 : Vec Ideal S1x4096x50 .bf16) (x4 : Vec Ideal S1x1x4096 .i32) :
    FVec Ideal S50x1 .f32 :=
  subf (broadcast S50x1 (extractAt ![0, 0, 0]
      (shapeCast S1x1x1 (multiReduction .add [1, 2] S1 (shapeCast S1x1x4096 (k0_pay6 (F := Ideal) x4) shapeCasts_S1x4096_S1x1x4096)
        0x00000000#32 reduces_S1x1x4096_S1 (.inl rfl) rfl) shapeCasts_S1_S1x1x1) inpos_S1x1x1_p0_0_0))
    (shapeCast S50x1 (multiReduction .add [1] S50 (tenHist x0 x1 x4) 0x00000000#32 reduces_S50x10_S50 (.inl rfl) rfl) shapeCasts_S50_S50x1)

/-- The last bin's column, read at a query row. -/
theorem lastCol_apply (x0 : Vec Ideal S1x50x50 .bf16) (x1 : Vec Ideal S1x4096x50 .bf16) (x4 : Vec Ideal S1x1x4096 .i32)
    (i : Fin 50) : lastCol x0 x1 x4 (ix2 i 0)
      = (∑ k, weightOf (docIds x4 k)) - ∑ n, tenOf (docIds x4) (rowBins x0 x1 i) n := by
  refine congrArg₂ (fun a b : EReal => a - b) ?_ ?_
  · refine (total_plane (a := 1) (b := 4096) (k0_pay6 (F := Ideal) x4) _ _ _ _ _ _).trans ?_
    rw [Fin.sum_univ_one]
    exact Finset.sum_congr rfl fun k _ => docWeight_apply x4 k
  · refine (shapeCast_apply _ shapeCasts_S50_S50x1 (ix2 i 0) (ix1 i) (by simp [Shape.rowMajor_val_one, Shape.rowMajor_val_two])).trans ?_
    refine (Ideal.multiReduction_add_single _ _ reduces_S50x10_S50 _ _ (ix1 i)).trans ?_
    refine Finset.sum_congr rfl fun (n : Fin 10) _ => ?_
    refine Eq.trans ?_ (tenHist_apply x0 x1 x4 i n)
    refine congrArg (tenHist x0 x1 x4) (funext fun a => Fin.ext ?_)
    match a with
    | ⟨0, _⟩ => rfl
    | ⟨1, _⟩ => rfl

/-- The eleven columns side by side. -/
def hist (x0 : Vec Ideal S1x50x50 .bf16) (x1 : Vec Ideal S1x4096x50 .bf16) (x4 : Vec Ideal S1x1x4096 .i32) :
    FVec Ideal S50x11 .f32 :=
  concatenate S50x11 1 [⟨S50x10, tenHist x0 x1 x4⟩, ⟨S50x1, lastCol x0 x1 x4⟩] concatenates_S50x10_S50x1_S50x11_d1

/-- The eleven counts, read at a query row and a bin. -/
theorem hist_apply (x0 : Vec Ideal S1x50x50 .bf16) (x1 : Vec Ideal S1x4096x50 .bf16) (x4 : Vec Ideal S1x1x4096 .i32)
    (i : Fin 50) (n : Fin 11) : hist x0 x1 x4 (ix2 i n) = histOf (docIds x4) (rowBins x0 x1 i) n := by
  rw [histOf]
  split
  · rename_i h
    rw [← tenHist_apply]
    refine concatenate_pair_apply_left (t := S50x11) (s₁ := S50x10) (s₂ := S50x1) 1 _ _ _ (ix2 i n) rfl (ix2 i ⟨n, h⟩) fun b => ?_
    match b with
    | ⟨0, _⟩ => rfl
    | ⟨1, _⟩ => rfl
  · rename_i h
    rw [← lastCol_apply]
    refine concatenate_pair_apply_right (t := S50x11) (s₁ := S50x10) (s₂ := S50x1) 1 _ _ _ (ix2 i n) rfl rfl (ix2 i 0) (fun b hb => ?_) ?_
    · match b with
      | ⟨0, _⟩ => rfl
      | ⟨1, _⟩ => exact absurd rfl hb
    · show 0 + 10 = (n : ℕ)
      omega

/-- The body's logarithms, by the eleven columns. -/
theorem logHist_eq (x0 : Vec Ideal S1x50x50 .bf16) (x1 : Vec Ideal S1x4096x50 .bf16) (x3 : Vec Ideal S1x50x1 .i32)
    (x4 : Vec Ideal S1x1x4096 .i32) : logHist x0 x1 x3 x4
      = shapeCast S50x11 (truncf .bf16 (log (addf (mulf (hist x0 x1 x4) (broadcastTo S50x11 (k0_pay5 x3) broadcasts_S50x1_S50x11))
          (broadcast S50x11 (Scalar.ofBits .f32 0x3727C5AC#32)))) bitsLt_bf16_f32) shapeCasts_S50x11_S50x11 := by
  rfl

/-- The body's logarithm, read at a query row and a bin. -/
theorem logHist_apply (x0 : Vec Ideal S1x50x50 .bf16) (x1 : Vec Ideal S1x4096x50 .bf16) (x3 : Vec Ideal S1x50x1 .i32)
    (x4 : Vec Ideal S1x1x4096 .i32) (i : Fin 50) (n : Fin 11) : logHist x0 x1 x3 x4 (ix2 i n)
      = Ideal.log (histOf (docIds x4) (rowBins x0 x1 i) n * weightOf (x3 (ix3 0 i 0)) + lit 0x3727C5AC#32) := by
  rw [logHist_eq, shapeCast_self]
  refine congrArg (fun z : EReal => Ideal.log (z + lit 0x3727C5AC#32)) ?_
  refine congrArg₂ (fun a b : EReal => a * b) (hist_apply x0 x1 x4 i n) ?_
  refine (broadcastTo_apply _ _ (ix2 i n) (ix2 i 0) fun a => ?_).trans (queryWeight_apply x3 i)
  match a with
  | ⟨0, _⟩ => rfl
  | ⟨1, _⟩ => rfl

/-- The feed-forward score of one batch. -/
theorem score_apply (x0 : Vec Ideal S1x50x50 .bf16) (x1 : Vec Ideal S1x4096x50 .bf16) (x3 : Vec Ideal S1x50x1 .i32)
    (x4 : Vec Ideal S1x1x4096 .i32) (x5 : Vec Ideal S50x11 .f32) : score x0 x1 x3 x4 x5 (ix2 0 0)
      = ∑ i : Fin 50, ∑ n : Fin 11, Ideal.log (histOf (docIds x4) (rowBins x0 x1 i) n * weightOf (x3 (ix3 0 i 0))
          + lit 0x3727C5AC#32) * x5 (ix2 i n) := by
  rw [score, k0_pay1]
  simp only [shapeCast_self]
  refine (total_plane (a := 50) (b := 11) _ _ _ _ _ _ _).trans ?_
  refine Finset.sum_congr rfl fun i _ => Finset.sum_congr rfl fun n _ => ?_
  rw [k0_pay23, shapeCast_self, ← logHist_apply]
  rfl

/-- The gate's logit of one batch. -/
theorem logit_apply (x2 : Vec Ideal S1x50x50 .f32) (x6 : Vec Ideal S50x50 .f32) : logit x2 x6 (ix2 0 0)
      = ∑ i : Fin 50, ∑ e : Fin 50, x2 (ix3 0 i e) * x6 (ix2 i e) := by
  rw [logit, k0_pay2, k0_pay4]
  simp only [shapeCast_self]
  refine (total_plane (a := 50) (b := 50) _ _ _ _ _ _ _).trans ?_
  refine Finset.sum_congr rfl fun i _ => Finset.sum_congr rfl fun e _ => ?_
  refine congrArg (· * x6 (ix2 i e)) ?_
  exact shapeCast_apply x2 _ (ix2 i e) (ix3 0 i e) (by simp [Shape.rowMajor_val_two, Shape.rowMajor_val_three])

/-! ## All batches -/

/-- The largest logit, as the body takes it. -/
def largest (l : Vec Ideal S64x1 .f32) : EReal :=
  extractAt ![0, 0, 0] (shapeCast S1x1x1 (multiReduction (F := Ideal) (φ := .f32) .maximumf [1, 2] S1
    (shapeCast S1x64x1 l shapeCasts_S64x1_S1x64x1) 0xFF800000#32 reduces_S1x64x1_S1 (.inl rfl) rfl) shapeCasts_S1_S1x1x1)
    inpos_S1x1x1_p0_0_0

/-- A column's total, as the body takes it. -/
def total (v : FVec Ideal S64x1 .f32) : EReal :=
  extractAt ![0, 0, 0] (shapeCast S1x1x1 (multiReduction (F := Ideal) (φ := .f32) .add [1, 2] S1
    (shapeCast S1x64x1 v shapeCasts_S64x1_S1x64x1) 0x00000000#32 reduces_S1x64x1_S1 (.inl rfl) rfl) shapeCasts_S1_S1x1x1)
    inpos_S1x1x1_p0_0_0

/-- The exponentials of the logits' distances from the largest. -/
def weightCol (l : Vec Ideal S64x1 .f32) : FVec Ideal S64x1 .f32 :=
  exp (subf (F := Ideal) (φ := .f32) l (broadcast S64x1 (largest l)))

/-- A column's total is the sum of its entries. -/
theorem total_eq (v : FVec Ideal S64x1 .f32) : total v = ∑ i : Fin 64, v (ix2 i 0) := by
  refine (total_plane (a := 64) (b := 1) v _ _ _ _ _ _).trans ?_
  exact Finset.sum_congr rfl fun i _ => Fin.sum_univ_one _

/-- An exponential, read at a batch. -/
theorem weightCol_apply (l : Vec Ideal S64x1 .f32) (k : Fin 64) :
    weightCol l (ix2 k 0) = Ideal.exp (l (ix2 k 0) - Finset.univ.sup fun i : Fin 64 => l (ix2 i 0)) := by
  have h : largest l = Finset.univ.sup fun i : Fin 64 => l (ix2 i 0) := max_column l _ _ _ _ _ _
  rw [← h]
  rfl

/-- The body's gated scores, by the column of exponentials. -/
theorem gated_eq (l s : Vec Ideal S64x1 .f32) (b : Vec Ideal S1x1 .f32) : k0_pay3 l s b
    = mulf (F := Ideal) (φ := .f32) (addf s (broadcastTo S64x1 (shapeCast S1x1 b shapeCasts_S1x1_S1x1) broadcasts_S1x1_S64x1))
        (broadcast S64x1 (total (divf (F := Ideal) (φ := .f32) (weightCol l) (broadcast S64x1 (total (weightCol l)))))) := by
  rfl

/-- The gated score of batch `j`. -/
theorem gated_apply (l s : Vec Ideal S64x1 .f32) (b : Vec Ideal S1x1 .f32) (j : Fin 64) :
    k0_pay3 l s b (ix2 j 0) = (s (ix2 j 0) + b (ix2 0 0))
      * ∑ k : Fin 64, Ideal.div (Ideal.exp (l (ix2 k 0) - Finset.univ.sup fun i : Fin 64 => l (ix2 i 0)))
          (∑ i : Fin 64, Ideal.exp (l (ix2 i 0) - Finset.univ.sup fun i : Fin 64 => l (ix2 i 0))) := by
  rw [gated_eq, shapeCast_self]
  refine congrArg₂ (fun a b : EReal => a * b) (congrArg (fun z : EReal => s (ix2 j 0) + z) ?_) ?_
  · refine broadcastTo_apply _ _ (ix2 j 0) (ix2 0 0) fun a => ?_
    match a with
    | ⟨0, _⟩ => rfl
    | ⟨1, _⟩ => rfl
  · refine (total_eq _).trans (Finset.sum_congr rfl fun k _ => ?_)
    show Ideal.div (weightCol l (ix2 k 0)) (total (weightCol l)) = _
    rw [weightCol_apply, total_eq]
    exact congrArg (Ideal.div _) (Finset.sum_congr rfl fun i _ => weightCol_apply l i)

end Cert.KernelIdeal.Drmm

end
-- ==== Proof.Launch.lean ====
/-
  The run of the fused kernel: the 64 grid points carry two columns, the feed-forward scores and the
  gate's logits of the batches done so far; the last point turns them into the result.
-/
module

public import proofs.«01_k».proof.Proof.Body
public import Idealize.ShloMosaic.Lib.Pipeline.Value
public import Idealize.ShloMosaic.Lib.Claim

@[expose] public section

set_option maxRecDepth 16384

noncomputable section

namespace Cert.KernelIdeal.Drmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The grid point of batch `k`. -/
def pt (k : Fin 64) : Fin cfg0.N := Fin.cast N_0.symm k

/-- The coordinate of a point is its number. -/
theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  rw [e0]; omega

/-- The body's condition holds at the last point alone. -/
theorem last_iff (t : Fin cfg0.N) : k0_cond1 (grid0.coords t) = 1#1 ↔ t.val = 63 := by
  have ht : t.val < 64 := Nat.lt_of_lt_of_eq t.isLt N_0
  have e0 : (grid0.coords t 0).val = t.val % 64 := by rw [coord_val t]; omega
  have : k0_cond1 (grid0.coords t) = 1#1 ↔ t.val % 64 = 63 := by
    simp only [k0_cond1, e0]
    word_cmp
  rw [this]; omega

/-- The feed-forward score of the batch at point `t`. -/
def scoreAt (c : Dev nD) (t : Fin cfg0.N) : FVec F S1x1 .f32 :=
  score (iblk m c 0 t) (iblk m c 1 t) (iblk m c 3 t) (iblk m c 4 t) (iblk m c 5 t)

/-- The gate's logit of the batch at point `t`. -/
def logitAt (c : Dev nD) (t : Fin cfg0.N) : FVec F S1x1 .f32 := logit (iblk m c 2 t) (iblk m c 6 t)

/-- The column of all scores. -/
def scoreCol (c : Dev nD) : Vec F S64x1 .f32 := fun j => scoreAt m c (pt (j 0)) (ix2 0 0)

/-- The column of all logits. -/
def logitCol (c : Dev nD) : Vec F S64x1 .f32 := fun j => logitAt m c (pt (j 0)) (ix2 0 0)

/-- The first `n` entries of `d` are those of `col`. -/
def Upto (n : ℕ) (col d : Vec F S64x1 .f32) : Prop := ∀ j : S64x1.Idx, (j 0).val < n → d j = col j

/-- Setting the entry of the next point extends the agreement by one. -/
theorem upto_setRow (t : Fin cfg0.N) (g : Fin cfg0.N → FVec F S1x1 .f32) (d : Vec F S64x1 .f32)
    (h : Upto t.val (fun j => g (pt (j 0)) (ix2 0 0)) d) :
    Upto (t.val + 1) (fun j => g (pt (j 0)) (ix2 0 0)) (setRow (grid0.coords t) (g t) d) := by
  intro j hj
  unfold setRow
  rw [coord_val]
  split
  · rename_i e
    have : pt (j 0) = t := Fin.ext e
    exact congrArg (fun p => g p (ix2 0 0)) this.symm
  · rename_i e
    exact h j (by omega)

/-- Agreement on all 64 entries is equality. -/
theorem upto_all {col d : Vec F S64x1 .f32} (h : Upto 64 col d) : d = col :=
  funext fun j => h j (j 0).isLt

/-! ## The proof data of the pipeline -/

abbrev scM0_0 : Memref sig .tc .vmem S64x1 .f32 := Memref.whole cc0_scratch0
abbrev scM0_1 : Memref sig .tc .vmem S64x1 .f32 := Memref.whole cc0_scratch1
abbrev scM0_2 : Memref sig .tc .vmem S50x11 .bf16 := Memref.whole cc0_scratch2

/-- The three scratch buffers at any contents, with the generator's register. -/
theorem anyScratch_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- Before point `n` the two columns hold the scores and the logits of the first `n` batches. -/
def carried (c : Dev nD) (n : ℕ) : sProp 𝕄 :=
  iprop(∃ d10 d11, ⌜Upto n (scoreCol m c) d10 ∧ Upto n (logitCol m c) d11⌝
    ∗ owns (c : Thread nD τ) scM0_0 fullShare d10 ∗ owns (c : Thread nD τ) scM0_1 fullShare d11
    ∗ (∃ d, owns (c : Thread nD τ) scM0_2 fullShare d) ∗ (∃ r, prngReg c r))

/-- The result column: the scores gated by the softmax of the logits. -/
def gated (c : Dev nD) : Vec F S64x1 .f32 :=
  k0_pay3 (logitCol m c) (scoreCol m c) (iblk m c 7 (pt 63))

/-- The proof data: each input's buffer keeps its block, the result's block is the gated column, and
    the carried columns are as `carried` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gated m c
  Φ t := carried m c t.val
  q _ := fullShare
  owed _ := 0

/-- The arrays are those the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = gated m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]

/-- At the last point the body leaves the gated column in the result's block. -/
theorem leaves_last (c : Dev nD) (t : Fin cfg0.N) (h : t.val = 63) :
    (dats m 0 c).leavesExact 8 t = owns (c : Thread nD τ) (st0_8 t) fullShare (gated m c) := by
  have hi : cfg0.idle 8 (grid0.coords t) = false := by
    show (!(k0_cond1 (grid0.coords t) == 1#1)) = false
    rw [(last_iff t).mpr h]; rfl
  unfold Dat.leavesExact; rw [hi, after_8]

/-- At every other point it leaves the block as it was. -/
theorem leaves_idle (c : Dev nD) (t : Fin cfg0.N) (h : ¬t.val = 63) :
    (dats m 0 c).leavesExact 8 t
      = iprop(∃ d, owns (c : Thread nD τ) (st0_8 t) fullShare ((dats m 0 c).before 8 t d)) := by
  have ht : t.val < 64 := Nat.lt_of_lt_of_eq t.isLt N_0
  refine Dat.leavesExact_idle _ 8 t ?_ ?_
  · show (!(k0_cond1 (grid0.coords t) == 1#1)) = true
    have : ¬k0_cond1 (grid0.coords t) = 1#1 := fun e => h ((last_iff t).mp e)
    simpa using this
  · rcases hf : (cfg0.win 8).flush t with _ | _
    · rfl
    · have := (flush0_8 t).mp hf; omega

/-! ## The body at a point -/

/-- What the body is called with at a point, window by window. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def pointPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at a point takes `pointPre` to `pointPost`. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6, before_7]
  rw [show (dats m 0 c).owesAt () t.succ = (dats m 0 c).owesAt () t.castSucc from rfl,
    show (dats m 0 c).Φ t.castSucc = carried m c t.val from rfl,
    show (dats m 0 c).Φ t.succ = carried m c (t.val + 1) from rfl]
  rw [leaves_0, leaves_1, leaves_2, leaves_3, leaves_4, leaves_5, leaves_6, leaves_7]
  unfold carried
  iintro ⟨⟨%d10, %d11, %hd, HS0, HS1, ⟨%d12, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  have hs : Upto (t.val + 1) (scoreCol m c) (setRow (grid0.coords t) (scoreAt m c t) d10) :=
    upto_setRow t (scoreAt m c) d10 hd.1
  have hl : Upto (t.val + 1) (logitCol m c) (setRow (grid0.coords t) (logitAt m c t) d11) :=
    upto_setRow t (logitAt m c) d11 hd.2
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ d10 d11 d12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · iexists _, _
    isplitr
    · ipureintro; exact ⟨hs, hl⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h : t.val = 63
  · rw [leaves_last m c t h]
    have e : outBlock (grid0.coords t) (setRow (grid0.coords t) (scoreAt m c t) d10)
        (setRow (grid0.coords t) (logitAt m c t) d11) (iblk m c 7 t) ((dats m 0 c).before 8 t e8) = gated m c := by
      rw [h] at hs hl
      have ep : t = pt 63 := Fin.ext h
      unfold outBlock gated
      rw [if_pos ((last_iff t).mpr h), upto_all hs, upto_all hl, ep]
    rw [← e]
    iexact H8
  · rw [leaves_idle m c t h]
    have e : ∀ s l b y, outBlock (F := F) (grid0.coords t) s l b y = y := fun s l b y =>
      if_neg fun hc => h ((last_iff t).mp hc)
    rw [e]
    iexists _
    iexact H8

/-- The table's row at point `t` is the body. -/
theorem body_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ := fun t => by
  rw [bigSep_W0, bigSep_W0, body_row]
  exact triple_restated (sound_point m c t) rfl .rfl fun _ => .rfl

/-! ## The run -/

/-- The scratch at any contents starts the invariant. -/
theorem start (c : Dev nD) : (Pipeline.ΦA spec0 c : sProp 𝕄) ⊢ (dats m 0 c).Φ 0 := by
  rw [anyScratch_eq, show (dats m 0 c).Φ 0 = carried m c 0 from rfl]
  unfold carried
  iintro ⟨⟨⟨%d0, H0⟩, ⟨%d1, H1⟩, H2⟩, Hg⟩
  iexists d0, d1
  isplitr
  · ipureintro; exact ⟨fun j hj => absurd hj (Nat.not_lt_zero _), fun j hj => absurd hj (Nat.not_lt_zero _)⟩
  isplitl [H0]; · iexact H0
  isplitl [H1]; · iexact H1
  isplitl [H2]; · iexact H2
  iexact Hg

/-- The invariant at the end gives the scratch back. -/
theorem finish (c : Dev nD) : (dats m 0 c).Φ (Fin.last cfg0.N) ⊢ (Pipeline.ΦA spec0 c : sProp 𝕄) := by
  rw [anyScratch_eq, show (dats m 0 c).Φ (Fin.last cfg0.N) = carried m c cfg0.N from rfl]
  unfold carried
  iintro ⟨%d0, %d1, -, H0, H1, H2, Hg⟩
  isplitl [H0 H1 H2]
  · isplitl [H0]; · iexists _; iexact H0
    isplitl [H1]; · iexists _; iexact H1
    iexact H2
  iexact Hg

-- the launch's implicit arguments are found by unfolding plain definitions in the type of a metavariable
set_option backward.isDefEq.respectTransparency.types false in
set_option maxHeartbeats 800000 in
/-- The launch: every execution ends with the arrays as the proof data says and all counters at zero. -/
theorem run_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := start m) (hout := finish m)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Drmm

end
-- ==== Proof.Inputs.lean ====
/-
# The arguments as curried functions, and flat positions as pairs

Both programs read the same seven arrays. This file names what the arrays hold, and splits a sum over flat positions
into a sum over rows and columns, the way a reshape lays a matrix out.
-/
module

public import proofs.«01_k».proof.Proof.Spec
public import Idealize.ShloMosaic.Lib.ValueIdx
public import Idealize.ShloMosaic.Lib.ValueIdxRank1
public import Idealize.ShloMosaic.Lib.Routing.OpsPair

@[expose] public section

open Idealize.ShloMosaic Idealize.ShloMosaic.ValueIdx

namespace Cert.Drmm

/-- The seven arrays, curried. -/
def argsOf (x0 : (⟨3, ![64, 50, 50]⟩ : Shape).Idx → EReal) (x1 : (⟨3, ![64, 4096, 50]⟩ : Shape).Idx → EReal)
    (x2 : (⟨2, ![64, 50]⟩ : Shape).Idx → BitVec 32) (x3 : (⟨2, ![64, 4096]⟩ : Shape).Idx → BitVec 32)
    (x4 : (⟨2, ![1, 550]⟩ : Shape).Idx → EReal) (x5 : (⟨1, ![1]⟩ : Shape).Idx → EReal)
    (x6 : (⟨2, ![1, 2500]⟩ : Shape).Idx → EReal) : Args where
  q b i e := x0 (ix3 b i e)
  d b k e := x1 (ix3 b k e)
  qi b i := x2 (ix2 b i)
  di b k := x3 (ix2 b k)
  W n := x4 (ix2 0 n)
  b1 := x5 (ix1 0)
  G n := x6 (ix2 0 n)

/-- A sum over flat positions is a sum over rows and columns. -/
theorem sum_split {M : Type} [AddCommMonoid M] {N m n : ℕ} (h : N = m * n) (f : Fin N → M) :
    ∑ j, f j = ∑ i : Fin m, ∑ k : Fin n, f ⟨n * i + k, by
      subst h
      have hi := i.isLt
      have hk := k.isLt
      calc n * i + k < n * i + n := by omega
        _ = n * (i + 1) := by ring
        _ ≤ n * m := Nat.mul_le_mul_left n hi
        _ = m * n := Nat.mul_comm n m⟩ := by
  subst h
  rw [← Equiv.sum_comp (finProdFinEquiv (m := m) (n := n)) f, Fintype.sum_prod_type]
  refine Finset.sum_congr rfl fun i _ => Finset.sum_congr rfl fun k _ => congrArg f (Fin.ext ?_)
  show (k : ℕ) + n * i = n * i + k
  omega

/-- A sum over the indices of a vector is a sum over its coordinates. -/
theorem sum_idx1 {M : Type} [AddCommMonoid M] {N : ℕ} (f : (⟨1, ![N]⟩ : Shape).Idx → M) : ∑ j, f j = ∑ n : Fin N, f (ix1 n) :=
  (Equiv.sum_comp idxEquiv1.symm f).symm

/-- Where an update of a scatter of scalars into a vector lands: at the place its index word names. -/
theorem lands_iff {R N : ℕ} (d : ScatterDims ⟨1, ![R]⟩ ⟨2, ![N, 1]⟩ ⟨1, ![N]⟩) (hiw : d.insertedWindowDims = [0])
    (hsd : d.scatterDimsToOperandDims = [0]) (hivd : d.indexVectorDim = 1) (idx : IVec ⟨2, ![N, 1]⟩ 32) (i : Fin N) (x : Fin R) :
    d.resultIdx? (ix1 i) idx = some (ix1 x) ↔ (idx (ix2 i 0)).toInt = (x : ℤ) := by
  have hm : (0 : Fin 1) ∈ d.scatterDimsToOperandDims := hsd ▸ List.mem_singleton.2 rfl
  have hw : d.window (ix1 i) 0 = 0 := by
    unfold ScatterDims.window
    refine dif_neg fun h => ?_
    have := (List.mem_filter.1 h).2
    simp [hiw] at this
  have hs : d.start (ix1 i) idx 0 = (idx (ix2 i 0)).toInt := by
    unfold ScatterDims.start
    rw [dif_pos hm]
    refine congrArg (fun j => (idx j).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have key : ∀ X : Fin 1, (ix1 i X).val = i.val := fun X => by rw [Subsingleton.elim (α := Fin 1) X 0]
      exact key _
    | ⟨1, _⟩ =>
      unfold ScatterDims.siIdx
      rw [dif_pos (by rw [hivd])]
      show List.idxOf (0 : Fin 1) d.scatterDimsToOperandDims = 0
      rw [hsd]
      rfl
  rw [Routing.resultIdx?_ix1, hs, hw, Nat.cast_zero, add_zero]

/-- A scatter with addition of scalars into a vector, read at a place: what was there and the updates that land there. -/
theorem scatterAdd_apply {R N : ℕ} (d : ScatterDims ⟨1, ![R]⟩ ⟨2, ![N, 1]⟩ ⟨1, ![N]⟩) (hiw : d.insertedWindowDims = [0])
    (hsd : d.scatterDimsToOperandDims = [0]) (hivd : d.indexVectorDim = 1) (x : FVec Ideal ⟨1, ![R]⟩ .f32)
    (idx : IVec ⟨2, ![N, 1]⟩ 32) (u : FVec Ideal ⟨1, ![N]⟩ .f32) (p : Fin R) :
    Host.scatterAdd d x idx u (ix1 p)
      = x (ix1 p) + ∑ j : Fin N, if (idx (ix2 j 0)).toInt = (p : ℤ) then u (ix1 j) else (0 : EReal) := by
  classical
  show x (ix1 p) + ∑ j ∈ Finset.univ.filter (fun j => d.resultIdx? j idx = some (ix1 p)), u j = _
  rw [Finset.sum_filter, sum_idx1]
  refine congrArg (fun z : EReal => x (ix1 p) + z) (Finset.sum_congr rfl fun j _ => ?_)
  simp only [lands_iff d hiw hsd hivd]

end Cert.Drmm

end
-- ==== Proof.Rows.lean ====
/-
# Normalised rows

The host divides every row of a batch of matrices by the root of its sum of squares plus a small constant. Read at an
index this is the row's normalised entry, whatever the two outer extents.
-/
module

public import proofs.«01_k».proof.Proof.Inputs
public import Idealize.ShloMosaic.Lib.Pipeline.Value
public import Idealize.ShloMosaic.PureOps.Ideal.Laws

@[expose] public section

noncomputable section

namespace Cert.Drmm

open Idealize.ShloMosaic Idealize.ShloMosaic.ValueIdx

variable {A B : ℕ} (hA : A ≠ 1) (hB : B ≠ 1) (x : FVec Ideal ⟨3, ![A, B, 50]⟩ .f32)
  (hr : Shape.ReducesTo ⟨3, ![A, B, 50]⟩ [2] ⟨2, ![A, B]⟩) (hr' : Shape.Reduces ⟨3, ![A, B, 50]⟩ [2] ⟨2, ![A, B]⟩)
  (h0 : 0 < (⟨0, ![]⟩ : Shape).numel)
  (h1 : Shape.BroadcastsInDim ⟨2, ![A, B]⟩ ⟨3, ![A, B, 1]⟩ ![0, 1])
  (h2 : Shape.BroadcastsInDim ⟨0, ![]⟩ ⟨3, ![A, B, 1]⟩ ![])
  (h3 : Shape.BroadcastsInDim ⟨3, ![A, B, 1]⟩ ⟨3, ![A, B, 50]⟩ ![0, 1, 2])

include hA hB hr' in
/-- The host's division of every row by its norm, read at an index. -/
theorem rows_apply (b : Fin A) (i : Fin B) (e : Fin 50) :
    Host.divf x (broadcastInDim ⟨3, ![A, B, 50]⟩ ![0, 1, 2] h3
      (addf (Host.sqrt (broadcastInDim ⟨3, ![A, B, 1]⟩ ![0, 1] h1
        (Host.reduceAdd (mulf x x) (constant (F := Ideal) ⟨0, ![]⟩ .f32 0x00000000#32) hr h0)))
        (broadcastInDim ⟨3, ![A, B, 1]⟩ ![] h2 (constant (F := Ideal) ⟨0, ![]⟩ .f32 0x29E12E13#32)))) (ix3 b i e)
      = normed (fun e => x (ix3 b i e)) e := by
  have hs : Host.reduceAdd (mulf x x) (constant (F := Ideal) ⟨0, ![]⟩ .f32 0x00000000#32) hr h0 (ix2 b i)
      = ∑ k : Fin 50, x (ix3 b i k) * x (ix3 b i k) := by
    refine (Ideal.hostReduceAdd_single hr hr' _ _ _).trans ?_
    refine (congrArg (fun z : EReal => z + _) Ideal.ofBits_zero_f32).trans ((zero_add _).trans ?_)
    refine Finset.sum_congr rfl fun (k : Fin 50) _ => ?_
    have hk : hr'.lift (ix2 b i) k = ix3 b i k := funext fun a => Fin.ext (by match a with | ⟨0, _⟩ => rfl | ⟨1, _⟩ => rfl | ⟨2, _⟩ => rfl)
    rw [hk]
    rfl
  refine congrArg (Ideal.div (x (ix3 b i e))) ?_
  rw [broadcastInDim_apply _ h3 _ (ix3 b i e) (ix3 b i 0) (fun a => match a with
    | ⟨0, _⟩ => (if_neg hA).symm
    | ⟨1, _⟩ => (if_neg hB).symm
    | ⟨2, _⟩ => rfl)]
  refine congrArg₂ (fun z w : EReal => Ideal.sqrt z + w) ?_ rfl
  rw [broadcastInDim_apply _ h1 _ (ix3 b i 0) (ix2 b i) (fun a => match a with
    | ⟨0, _⟩ => (if_neg hA).symm
    | ⟨1, _⟩ => (if_neg hB).symm), hs]

end Cert.Drmm

end

end
-- ==== Proof.Arrays.lean ====
/-
# What the host prepares for the kernel

Before the grid starts, the host normalises the rows of the query and of the documents and lays the other arguments
out in the shapes the blocks are cut from. Each prepared array is read here at an index.
-/
module

public import proofs.«01_k».proof.Proof.Launch
public import proofs.«01_k».proof.Proof.Rows
public import Idealize.ShloMosaic.Lib.StableHlo.Run

@[expose] public section

set_option maxRecDepth 16384

noncomputable section

namespace Cert.KernelIdeal.Drmm

open Cert.KernelIdeal Cert.KernelIdeal.Gen Cert.Drmm
open Idealize.ShloMosaic Idealize.ShloMosaic.TcCoe Idealize.ShloMosaic.ValueIdx Idealize.ShloMosaic.StableHlo

variable (m : (ℓ : Loc nD τ sig) → Buf (Elt Ideal) ℓ) (c : Dev nD)

/-- The query's rows, normalised by the host. -/
def queryRows (x : FVec Ideal S64x50x50 .f32) : FVec Ideal S64x50x50 .bf16 :=
  truncf .bf16 (Host.divf x (broadcastInDim S64x50x50 ![0, 1, 2] bcast_S64x50x1_S64x50x50_0_1_2
    (addf (Host.sqrt (broadcastInDim S64x50x1 ![0, 1] bcast_S64x50_S64x50x1_0_1
      (Host.reduceAdd (mulf x x) (constant (F := Ideal) S_ .f32 0x00000000#32) reducesTo_S64x50x50_S64x50_d2 h_S_)))
      (broadcastInDim S64x50x1 ![] bcast_S_S64x50x1 (constant (F := Ideal) S_ .f32 0x29E12E13#32))))) bitsLt_bf16_f32

/-- The documents' rows, normalised by the host. -/
def docRows (x : FVec Ideal S64x4096x50 .f32) : FVec Ideal S64x4096x50 .bf16 :=
  truncf .bf16 (Host.divf x (broadcastInDim S64x4096x50 ![0, 1, 2] bcast_S64x4096x1_S64x4096x50_0_1_2
    (addf (Host.sqrt (broadcastInDim S64x4096x1 ![0, 1] bcast_S64x4096_S64x4096x1_0_1
      (Host.reduceAdd (mulf x x) (constant (F := Ideal) S_ .f32 0x00000000#32) reducesTo_S64x4096x50_S64x4096_d2 h_S_)))
      (broadcastInDim S64x4096x1 ![] bcast_S_S64x4096x1 (constant (F := Ideal) S_ .f32 0x29E12E13#32))))) bitsLt_bf16_f32

/-- The query the grid reads. -/
theorem V_main_v12 : V m c main_v12 = queryRows (m ((c : Thread nD τ).loc main_arg0)) := by
  show StableHlo.after [hostOps0, hostOps0_1, hostOps0_2, hostOps0_3, hostOps0_4].flatten (fun b => m (c, b)) (main_v12 : DevRef τ sig) = _
  simp only [hostOps0, hostOps0_1, hostOps0_2, hostOps0_3, hostOps0_4, List.flatten_cons, List.flatten_nil, List.append_nil,
    List.cons_append, List.nil_append]
  after_results_simp
  rfl

/-- The documents the grid reads. -/
theorem V_main_v18 : V m c main_v18 = docRows (m ((c : Thread nD τ).loc main_arg1)) := by
  show StableHlo.after [hostOps0, hostOps0_1, hostOps0_2, hostOps0_3, hostOps0_4].flatten (fun b => m (c, b)) (main_v18 : DevRef τ sig) = _
  simp only [hostOps0, hostOps0_1, hostOps0_2, hostOps0_3, hostOps0_4, List.flatten_cons, List.flatten_nil, List.append_nil,
    List.cons_append, List.nil_append]
  after_results_simp
  rfl

/-- The query ids, as columns. -/
theorem V_main_v0 : V m c main_v0 = shapeCast S64x50x1 (m ((c : Thread nD τ).loc main_arg2)) shapeCasts_S64x50_S64x50x1 := by
  show StableHlo.after [hostOps0, hostOps0_1, hostOps0_2, hostOps0_3, hostOps0_4].flatten (fun b => m (c, b)) (main_v0 : DevRef τ sig) = _
  simp only [hostOps0, hostOps0_1, hostOps0_2, hostOps0_3, hostOps0_4, List.flatten_cons, List.flatten_nil, List.append_nil,
    List.cons_append, List.nil_append]
  after_results_simp
  rfl

/-- The document ids, as rows. -/
theorem V_main_v1 : V m c main_v1 = shapeCast S64x1x4096 (m ((c : Thread nD τ).loc main_arg3)) shapeCasts_S64x4096_S64x1x4096 := by
  show StableHlo.after [hostOps0, hostOps0_1, hostOps0_2, hostOps0_3, hostOps0_4].flatten (fun b => m (c, b)) (main_v1 : DevRef τ sig) = _
  simp only [hostOps0, hostOps0_1, hostOps0_2, hostOps0_3, hostOps0_4, List.flatten_cons, List.flatten_nil, List.append_nil,
    List.cons_append, List.nil_append]
  after_results_simp
  rfl

/-- The feed-forward weights, one row a query token. -/
theorem V_main_v4 : V m c main_v4 = (extf .f32 (truncf .bf16 (shapeCast S50x11 (m ((c : Thread nD τ).loc main_arg4)) shapeCasts_S1x550_S50x11 : FVec Ideal S50x11 .f32) bitsLt_bf16_f32) bitsLt_bf16_f32 : FVec Ideal S50x11 .f32) := by
  show StableHlo.after [hostOps0, hostOps0_1, hostOps0_2, hostOps0_3, hostOps0_4].flatten (fun b => m (c, b)) (main_v4 : DevRef τ sig) = _
  simp only [hostOps0, hostOps0_1, hostOps0_2, hostOps0_3, hostOps0_4, List.flatten_cons, List.flatten_nil, List.append_nil,
    List.cons_append, List.nil_append]
  after_results_simp
  rfl

/-- The gate weights, one row a query token. -/
theorem V_main_v5 : V m c main_v5 = shapeCast S50x50 (m ((c : Thread nD τ).loc main_arg6)) shapeCasts_S1x2500_S50x50 := by
  show StableHlo.after [hostOps0, hostOps0_1, hostOps0_2, hostOps0_3, hostOps0_4].flatten (fun b => m (c, b)) (main_v5 : DevRef τ sig) = _
  simp only [hostOps0, hostOps0_1, hostOps0_2, hostOps0_3, hostOps0_4, List.flatten_cons, List.flatten_nil, List.append_nil,
    List.cons_append, List.nil_append]
  after_results_simp
  rfl

/-- The bias. -/
theorem V_main_v6 : V m c main_v6 = shapeCast S1x1 (m ((c : Thread nD τ).loc main_arg5)) shapeCasts_S1_S1x1 := by
  show StableHlo.after [hostOps0, hostOps0_1, hostOps0_2, hostOps0_3, hostOps0_4].flatten (fun b => m (c, b)) (main_v6 : DevRef τ sig) = _
  simp only [hostOps0, hostOps0_1, hostOps0_2, hostOps0_3, hostOps0_4, List.flatten_cons, List.flatten_nil, List.append_nil,
    List.cons_append, List.nil_append]
  after_results_simp
  rfl

/-! ## Read at an index -/

/-- An entry of a normalised query row. -/
theorem query_apply (b : Fin 64) (i e : Fin 50) :
    (V m c main_v12 (ix3 b i e) : EReal) = normed (fun e => m ((c : Thread nD τ).loc main_arg0) (ix3 b i e)) e := by
  rw [V_main_v12]
  exact rows_apply (by decide) (by decide) _ _ (by decide) _ _ _ _ b i e

/-- An entry of a normalised document row. -/
theorem doc_apply (b : Fin 64) (k : Fin 4096) (e : Fin 50) :
    (V m c main_v18 (ix3 b k e) : EReal) = normed (fun e => m ((c : Thread nD τ).loc main_arg1) (ix3 b k e)) e := by
  rw [V_main_v18]
  exact rows_apply (by decide) (by decide) _ _ (by decide) _ _ _ _ b k e

/-- A query id. -/
theorem queryId_apply (b : Fin 64) (i : Fin 50) : V m c main_v0 (ix3 b i 0) = m ((c : Thread nD τ).loc main_arg2) (ix2 b i) := by
  rw [V_main_v0]
  exact shapeCast_apply _ _ (ix3 b i 0) (ix2 b i) (by simp [Shape.rowMajor_val_two, Shape.rowMajor_val_three])

/-- A document id. -/
theorem docId_apply (b : Fin 64) (k : Fin 4096) : V m c main_v1 (ix3 b 0 k) = m ((c : Thread nD τ).loc main_arg3) (ix2 b k) := by
  rw [V_main_v1]
  exact shapeCast_apply _ _ (ix3 b 0 k) (ix2 b k) (by simp [Shape.rowMajor_val_two, Shape.rowMajor_val_three])

/-- A feed-forward weight. -/
theorem layer_apply (i : Fin 50) (n : Fin 11) :
    V m c main_v4 (ix2 i n) = m ((c : Thread nD τ).loc main_arg4) (ix2 0 (Args.flat11 i n)) := by
  rw [V_main_v4]
  exact shapeCast_apply _ shapeCasts_S1x550_S50x11 (ix2 i n) (ix2 0 (Args.flat11 i n))
    (by
      rw [Shape.rowMajor_val_two, Shape.rowMajor_val_two]
      show 0 * 550 + (11 * (i : ℕ) + n) = i * 11 + n
      omega)

/-- A gate weight. -/
theorem gateLayer_apply (i e : Fin 50) :
    V m c main_v5 (ix2 i e) = m ((c : Thread nD τ).loc main_arg6) (ix2 0 (Args.flat50 i e)) := by
  rw [V_main_v5]
  exact shapeCast_apply _ _ (ix2 i e) (ix2 0 (Args.flat50 i e)) (by
    rw [Shape.rowMajor_val_two, Shape.rowMajor_val_two]
    show 0 * 2500 + (50 * (i : ℕ) + e) = i * 50 + e
    omega)

/-- The bias, as one entry. -/
theorem bias_apply : V m c main_v6 (ix2 0 0) = m ((c : Thread nD τ).loc main_arg5) (ix1 0) := by
  rw [V_main_v6]
  exact shapeCast_apply _ _ (ix2 0 0) (ix1 0) (by simp [Shape.rowMajor_val_two, Shape.rowMajor_val_one])

end Cert.KernelIdeal.Drmm

end

end
-- ==== Proof.Blocks.lean ====
/-
# The blocks of a grid point

At the grid point of batch `b` the kernel's blocks are batch `b` of the prepared arrays, and the whole of the shared
ones. Read at an index, the blocks hold what the network reads.
-/
module

public import proofs.«01_k».proof.Proof.Arrays

@[expose] public section

set_option maxRecDepth 16384

noncomputable section

namespace Cert.KernelIdeal.Drmm

open Cert.KernelIdeal Cert.KernelIdeal.Gen Cert.Drmm
open Idealize.ShloMosaic Idealize.ShloMosaic.TcCoe Idealize.ShloMosaic.ValueIdx

variable (m : (ℓ : Loc nD τ sig) → Buf (Elt Ideal) ℓ) (c : Dev nD)

/-- The block index of a batch's grid point, along the batch axis, is the batch. -/
theorem batch_index (b : Fin 64) : (BitVec.ofNat 32 (grid0.coords (pt b) 0).val).toNat = b := by
  have hb := b.isLt
  rw [coord_val, BitVec.toNat_ofNat]
  exact Nat.mod_eq_of_lt (show (b : ℕ) < 2 ^ 32 by omega)

/-- Where a block's batch axis starts. -/
theorem outer (b : Fin 64) : (BitVec.ofNat 32 (grid0.coords (pt b) 0).val).toNat * 1 + 1 * 0 = b := by
  rw [batch_index, Nat.mul_one, Nat.mul_zero, Nat.add_zero]

/-- A whole axis starts at zero. -/
theorem inner (n j : ℕ) : 0 * n + 1 * j = j := by omega

/-- Two indices of rank three with the same coordinates. -/
theorem ext3 {n : Fin 3 → ℕ} {j k : (⟨3, n⟩ : Shape).Idx} (h0 : (j 0).val = (k 0).val) (h1 : (j 1).val = (k 1).val)
    (h2 : (j 2).val = (k 2).val) : j = k :=
  funext fun a => Fin.ext (match a with | ⟨0, _⟩ => h0 | ⟨1, _⟩ => h1 | ⟨2, _⟩ => h2)

/-- Two indices of rank two with the same coordinates. -/
theorem ext2 {n : Fin 2 → ℕ} {j k : (⟨2, n⟩ : Shape).Idx} (h0 : (j 0).val = (k 0).val) (h1 : (j 1).val = (k 1).val) : j = k :=
  funext fun a => Fin.ext (match a with | ⟨0, _⟩ => h0 | ⟨1, _⟩ => h1)

/-- A batch's query rows. -/
theorem block_query (b : Fin 64) (i e : Fin 50) : iblk m c 0 (pt b) (ix3 0 i e) = V m c main_v12 (ix3 b i e) :=
  congrArg (V m c main_v12) (ext3 (outer b) (inner _ _) (inner _ _))

/-- A batch's document rows. -/
theorem block_doc (b : Fin 64) (k : Fin 4096) (e : Fin 50) : iblk m c 1 (pt b) (ix3 0 k e) = V m c main_v18 (ix3 b k e) :=
  congrArg (V m c main_v18) (ext3 (outer b) (inner _ _) (inner _ _))

/-- A batch's query, as launched. -/
theorem block_raw (b : Fin 64) (i e : Fin 50) : iblk m c 2 (pt b) (ix3 0 i e) = V m c main_arg0 (ix3 b i e) :=
  congrArg (V m c main_arg0) (ext3 (outer b) (inner _ _) (inner _ _))

/-- A batch's query ids. -/
theorem block_queryId (b : Fin 64) (i : Fin 50) : iblk m c 3 (pt b) (ix3 0 i 0) = V m c main_v0 (ix3 b i 0) :=
  congrArg (V m c main_v0) (ext3 (outer b) (inner _ _) (inner _ _))

/-- A batch's document ids. -/
theorem block_docId (b : Fin 64) (k : Fin 4096) : iblk m c 4 (pt b) (ix3 0 0 k) = V m c main_v1 (ix3 b 0 k) :=
  congrArg (V m c main_v1) (ext3 (outer b) (inner _ _) (inner _ _))

/-- The feed-forward weights. -/
theorem block_layer (t : Fin cfg0.N) (i : Fin 50) (n : Fin 11) : iblk m c 5 t (ix2 i n) = V m c main_v4 (ix2 i n) :=
  congrArg (V m c main_v4) (ext2 (inner _ _) (inner _ _))

/-- The gate weights. -/
theorem block_gate (t : Fin cfg0.N) (i e : Fin 50) : iblk m c 6 t (ix2 i e) = V m c main_v5 (ix2 i e) :=
  congrArg (V m c main_v5) (ext2 (inner _ _) (inner _ _))

/-- The bias. -/
theorem block_bias (t : Fin cfg0.N)  : iblk m c 7 t (ix2 0 0) = V m c main_v6 (ix2 0 0) :=
  congrArg (V m c main_v6) (ext2 (inner _ _) (inner _ _))

end Cert.KernelIdeal.Drmm

end

end
-- ==== Proof.KernelValue.lean ====
/-
# What the kernel computes

Each grid point's score and logit are the network's for its batch, the gated column is the network's result, and the
result array ends as that column.
-/
module

public import proofs.«01_k».proof.Proof.Payload
public import proofs.«01_k».proof.Proof.Blocks

@[expose] public section

set_option maxRecDepth 16384

noncomputable section

namespace Cert.KernelIdeal.Drmm

open Cert.KernelIdeal Cert.KernelIdeal.Gen Cert.Drmm
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The seven arguments the kernel starts from, curried. -/
abbrev args : Args := argsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- The bins of a batch's blocks are the network's. -/
theorem bins_eq (b : Fin 64) (i : Fin 50) : rowBins (iblk m c 0 (pt b)) (iblk m c 1 (pt b)) i = (args m c).bin b i := by
  funext k
  refine congrArg binOf (Finset.sum_congr rfl fun e _ => congrArg₂ (fun a b : EReal => a * b) ?_ ?_)
  · exact (block_query m c b i e).trans (query_apply m c b i e)
  · exact (block_doc m c b k e).trans (doc_apply m c b k e)

/-- The document ids of a batch's block are the network's. -/
theorem ids_eq (b : Fin 64) : docIds (iblk m c 4 (pt b)) = (args m c).di b :=
  funext fun k => (block_docId m c b k).trans (docId_apply m c b k)

/-- A grid point's score is the network's. -/
theorem scoreAt_eq (h : (args m c).NoFullEvenBin) (b : Fin 64) : scoreAt m c (pt b) (ix2 0 0) = (args m c).score b := by
  rw [scoreAt, score_apply]
  refine Finset.sum_congr rfl fun i _ => Finset.sum_congr rfl fun n _ => ?_
  rw [bins_eq, ids_eq, block_queryId, queryId_apply, block_layer, layer_apply]
  exact congrArg (fun z : EReal => Ideal.log (z + lit 0x3727C5AC#32) * _) (histOf_weight (args m c) h b i n)

/-- A grid point's logit is the network's. -/
theorem logitAt_eq (b : Fin 64) : logitAt m c (pt b) (ix2 0 0) = (args m c).logit b := by
  rw [logitAt, logit_apply]
  refine Finset.sum_congr rfl fun i _ => Finset.sum_congr rfl fun e _ => ?_
  rw [block_raw, V_main_arg0, block_gate, gateLayer_apply]
  rfl

/-- The gated column is the network's result. -/
theorem gated_out (h : (args m c).NoFullEvenBin) (b : Fin 64) : gated m c (ix2 b 0) = (args m c).out b := by
  have hs : scoreCol m c (ix2 b 0) = (args m c).score b := scoreAt_eq m c h b
  have hl : ∀ k : Fin 64, logitCol m c (ix2 k 0) = (args m c).logit k := fun k => logitAt_eq m c k
  rw [gated, gated_apply, hs, block_bias, bias_apply]
  simp only [hl]
  rfl

/-- The last grid point writes the gated column, the whole result array. -/
theorem flushed_eq (t : Fin cfg0.N) (hf : (cfg0.win 8).flush t = true) :
    (dats m 0 c).flushed 8 t = ((cfg0.win 8).blk t).view.read (Elt Ideal) (gated m c) := by
  have ht : t = pt 63 := Fin.ext (by
    have := (flush0_8 t).mp hf
    have := Nat.lt_of_lt_of_eq t.isLt N_0
    show t.val = 63
    omega)
  subst ht
  show (cfg0.win 8).cut (grid0.coords (pt 63)) ((dats m 0 c).after 8 (pt 63)) = _
  rw [after_8]
  have hz : (fun a => win0_8.index (pt 63) a * main_v19.ty.shape.size a) = fun _ => 0 := funext fun a => by
    fin_cases a <;> rfl
  exact (Memref.read_access_unit_zero (Elt Ideal) main_v19 hz (fun a => by rw [congrFun hz a]; simp) (gated m c)).symm

/-- The result column ends as the gated column. -/
theorem column_eq : (dats m 0 c).arrAt 8 cfg0.N = gated m c :=
  (dats m 0 c).arrAt_eq_of_cover 8 (gated m c) (flushed_eq m c) fun i => ⟨pt 63, (flush0_8 (pt 63)).mpr rfl, by
    show i ∈ ((View.whole main_v19).slice (win0_8.rect (pt 63))).set
    rw [View.set_slice_whole, Rect.mem_set_unit]
    intro a
    match a with
    | ⟨0, _⟩ => exact ⟨Nat.zero_le _, (i 0).isLt⟩
    | ⟨1, _⟩ => exact ⟨Nat.zero_le _, (i 1).isLt⟩⟩

/-- The result array: the gated column, laid flat. -/
theorem result_eq (b : Fin 64) : (Pipeline.afterTail₀ cfgs (dats m) 0 (V0 m) [hostOps1] c main_v20 : S64.Idx → EReal) (ix1 b)
    = gated m c (ix2 b 0) := by
  have h : Pipeline.afterTail₀ cfgs (dats m) 0 (V0 m) [hostOps1] c main_v20
      = shapeCast S64 ((dats m 0 c).arrAt 8 cfg0.N) shapeCasts_S64x1_S64 := by
    unfold Pipeline.afterTail₀
    simp only [hostOps1, List.flatten_cons, List.flatten_nil, List.append_nil]
    after_results_simp
    exact congrArg (fun z => shapeCast S64 z shapeCasts_S64x1_S64)
      (Pipeline.withArrays_arr spec0 (by decide) c (V0 m c) (fun w : Fin cfg0.W => (dats m 0 c).arrAt w cfg0.N) 8)
  rw [h, column_eq]
  exact shapeCast_apply _ _ (ix1 b) (ix2 b 0) (by simp [Shape.rowMajor_val_two, Shape.rowMajor_val_one])

end Cert.KernelIdeal.Drmm

end

end
-- ==== Proof.RefBin.lean ====
/-
# The reference, up to the bins

The reference's normalised rows, their products, the masked similarity and the bin, read at a batch, a query token and
a document token.
-/
module

public import proofs.«01_k».proof.Proof.Count
public import proofs.«01_k».proof.Proof.Inputs
public import proofs.«01_k».proof.Proof.Gen.ReferenceIdeal.Read

@[expose] public section

noncomputable section

namespace Cert.ReferenceIdeal.Drmm

open Cert.ReferenceIdeal Cert.ReferenceIdeal.Gen Cert.ReferenceIdeal.Read Cert.Drmm
open Idealize.ShloMosaic Idealize.ShloMosaic.ValueIdx

variable (x0 : (⟨S64x50x50, .f32⟩ : BufTy).Contents (Elt Ideal)) (x1 : (⟨S64x4096x50, .f32⟩ : BufTy).Contents (Elt Ideal))
  (x2 : (⟨S64x50, .i32⟩ : BufTy).Contents (Elt Ideal)) (x3 : (⟨S64x4096, .i32⟩ : BufTy).Contents (Elt Ideal))

/-- A query row's norm. -/
theorem norm_query (b : Fin 64) (i : Fin 50) :
    val_main_v2 x0 (ix3 b i 0) = Ideal.sqrt (∑ k : Fin 50, x0 (ix3 b i k) * x0 (ix3 b i k)) + eps := by
  rw [val_main_v2_apply, val_main_v0_apply, val_main_v1_apply, val_main_cst_apply, val_main_call0_v2_apply,
    show idx_main_call0_v2 (ix3 b i 0) = ix2 b i from eq_ix2 _, val_main_call0_v1_apply]
  refine congrArg (fun z : EReal => Ideal.sqrt z + eps) ?_
  refine (congrArg (fun z : EReal => z + _) Ideal.ofBits_zero_f32).trans ((zero_add _).trans ?_)
  refine Finset.sum_congr rfl fun k _ => ?_
  rw [show idx_main_call0_v1 (ix2 b i) k = ix3 b i k from eq_ix3 _]
  rfl

/-- A normalised query row. -/
theorem normed_query (b : Fin 64) (i e : Fin 50) :
    val_main_v4 x0 (ix3 b i e) = normed (fun e => x0 (ix3 b i e)) e := by
  rw [val_main_v4_apply, val_main_v3_apply, show idx_main_v3 (ix3 b i e) = ix3 b i 0 from eq_ix3 _, norm_query]
  rfl

/-- A document row's norm. -/
theorem norm_doc (b : Fin 64) (k : Fin 4096) :
    val_main_v7 x1 (ix3 b k 0) = Ideal.sqrt (∑ e : Fin 50, x1 (ix3 b k e) * x1 (ix3 b k e)) + eps := by
  rw [val_main_v7_apply, val_main_v5_apply, val_main_v6_apply, val_main_cst_0_apply, val_main_call1_v2_apply,
    show idx_main_call1_v2 (ix3 b k 0) = ix2 b k from eq_ix2 _, val_main_call1_v1_apply]
  refine congrArg (fun z : EReal => Ideal.sqrt z + eps) ?_
  refine (congrArg (fun z : EReal => z + _) Ideal.ofBits_zero_f32).trans ((zero_add _).trans ?_)
  refine Finset.sum_congr rfl fun e _ => ?_
  rw [show idx_main_call1_v1 (ix2 b k) e = ix3 b k e from eq_ix3 _]
  rfl

/-- A normalised document row. -/
theorem normed_doc (b : Fin 64) (k : Fin 4096) (e : Fin 50) :
    val_main_v9 x1 (ix3 b k e) = normed (fun e => x1 (ix3 b k e)) e := by
  rw [val_main_v9_apply, val_main_v8_apply, show idx_main_v8 (ix3 b k e) = ix3 b k 0 from eq_ix3 _, norm_doc]
  rfl

/-- The similarity of a query token and a document token. -/
theorem similarity (b : Fin 64) (i : Fin 50) (k : Fin 4096) :
    val_main_v10 x0 x1 (ix3 b i k) = cosine (fun e => x0 (ix3 b i e)) (fun e => x1 (ix3 b k e)) := by
  rw [val_main_v10_apply]
  refine Finset.sum_congr rfl fun e _ => ?_
  rw [show lidx_main_v10 (ix3 b i k) e = ix3 b i e from eq_ix3 _, show ridx_main_v10 (ix3 b i k) e = ix3 b k e from eq_ix3 _,
    normed_query, normed_doc]

/-- The conjunction of two presence bits, as a number. -/
theorem both_present (a b : BitVec 32) :
    (FloatOps.uitofp (F := Ideal) .f32 (IntOp.andi (IntOp.cmpi .ne a 0#32) (IntOp.cmpi .ne b 0#32)) : EReal)
      = if a ≠ 0#32 ∧ b ≠ 0#32 then 1 else 0 := by
  show ((((IntOp.andi (IntOp.cmpi .ne a 0#32) (IntOp.cmpi .ne b 0#32)).toNat : ℝ)) : EReal) = _
  by_cases ha : a = 0#32 <;> by_cases hb : b = 0#32 <;> simp [IntOp.andi, IntOp.cmpi, ha, hb]

/-- The similarity's mask. -/
theorem mask (b : Fin 64) (i : Fin 50) (k : Fin 4096) :
    (val_main_v20 (F := Ideal) x2 x3 (ix3 b i k) : EReal) = if x2 (ix2 b i) ≠ 0#32 ∧ x3 (ix2 b k) ≠ 0#32 then 1 else 0 := by
  rw [val_main_v20_apply, val_main_v19_apply, val_main_v17_apply, val_main_v18_apply,
    show idx_main_v17 (ix3 b i k) = ix3 b i 0 from eq_ix3 _, show idx_main_v18 (ix3 b i k) = ix3 b 0 k from eq_ix3 _,
    val_main_v13_apply, val_main_v16_apply, show idx_main_v13 (ix3 b i 0) = ix2 b i from eq_ix2 _,
    show idx_main_v16 (ix3 b 0 k) = ix2 b k from eq_ix2 _, val_main_v12_apply, val_main_v15_apply]
  exact both_present _ _

/-- The counted weight of a pair of tokens. -/
theorem weight_pair (b : Fin 64) (i : Fin 50) (k : Fin 4096) :
    (val_main_v39 (F := Ideal) x2 x3 (ix3 b i k) : EReal) = if x2 (ix2 b i) ≠ 0#32 ∧ x3 (ix2 b k) ≠ 0#32 then 1 else 0 := by
  rw [val_main_v39_apply, val_main_v38_apply, val_main_v36_apply, val_main_v37_apply,
    show idx_main_v36 (ix3 b i k) = ix3 b i 0 from eq_ix3 _, show idx_main_v37 (ix3 b i k) = ix3 b 0 k from eq_ix3 _,
    val_main_v32_apply, val_main_v35_apply, show idx_main_v32 (ix3 b i 0) = ix2 b i from eq_ix2 _,
    show idx_main_v35 (ix3 b 0 k) = ix2 b k from eq_ix2 _, val_main_v31_apply, val_main_v34_apply]
  exact both_present _ _

/-- The bin of two present tokens, before it is clipped. -/
theorem bin_raw (b : Fin 64) (i : Fin 50) (k : Fin 4096) (h : x2 (ix2 b i) ≠ 0#32 ∧ x3 (ix2 b k) ≠ 0#32) :
    val_main_v28 x0 x1 x2 x3 (ix3 b i k) = binOf (cosine (fun e => x0 (ix3 b i e)) (fun e => x1 (ix3 b k e))) := by
  rw [val_main_v28_apply, val_main_v27_apply, val_main_v25_apply, val_main_v23_apply, val_main_v21_apply, similarity, mask,
    if_pos h, val_main_v22_apply, val_main_v24_apply, val_main_v26_apply, val_main_cst_2_apply, val_main_cst_3_apply,
    val_main_cst_4_apply]
  show binOf (_ * 1) = _
  rw [mul_one]

/-- A bin is at most ten, so clipping it to 0 … 10 changes nothing. -/
theorem clip_bin : ∀ n ≤ 10, IntOp.minsi 10#32 (IntOp.maxsi 0#32 (BitVec.ofNat 32 n)) = BitVec.ofNat 32 n := by
  intro n hn
  interval_cases n <;> rfl

variable (x4 : (⟨S1x550, .f32⟩ : BufTy).Contents (Elt Ideal)) (x5 : (⟨S1, .f32⟩ : BufTy).Contents (Elt Ideal))
  (x6 : (⟨S1x2500, .f32⟩ : BufTy).Contents (Elt Ideal))

/-- The seven arguments of the reference, curried. -/
abbrev args : Args := argsOf x0 x1 x2 x3 x4 x5 x6

/-- The clipped bin of two present tokens. -/
theorem bin_live (b : Fin 64) (i : Fin 50) (k : Fin 4096) (h : x2 (ix2 b i) ≠ 0#32 ∧ x3 (ix2 b k) ≠ 0#32) :
    val_main_v29 x0 x1 x2 x3 (ix3 b i k) = (args x0 x1 x2 x3 x4 x5 x6).bin b i k := by
  obtain ⟨n, hn, he⟩ := bin_le (args x0 x1 x2 x3 x4 x5 x6) b i k
  rw [val_main_v29_apply, val_main_call2_v2_apply, bin_raw x0 x1 x2 x3 b i k h]
  refine Eq.trans ?_ ((clip_bin n hn).trans he.symm)
  rw [← he]
  rfl

/-- The number of a query token's first bin. -/
theorem base_word (b : Fin 64) (i : Fin 50) (k : Fin 4096) :
    val_main_v44 (F := Ideal) (ix3 b i k) = BitVec.ofNat 32 ((50 * b + i) * 11) := by
  rw [val_main_v44_apply, show idx_main_v44 (ix3 b i k) = ix3 b i 0 from eq_ix3 _, val_main_v43_apply, val_main_v42_apply,
    val_main_v40_apply, BitVec.ofNat_mul]
  show BitVec.ofNat 32 (((b : ℕ) * 50 + i) * 1 + 0) * 11#32 = _
  rw [show ((b : ℕ) * 50 + i) * 1 + 0 = 50 * b + i by omega]

/-- The place in the flat histogram of a pair of present tokens. -/
theorem place_live (b : Fin 64) (i : Fin 50) (k : Fin 4096) (h : x2 (ix2 b i) ≠ 0#32 ∧ x3 (ix2 b k) ≠ 0#32) :
    ((val_main_v45 x0 x1 x2 x3 (ix3 b i k) : BitVec 32)).toInt
      = (((args x0 x1 x2 x3 x4 x5 x6).bin b i k).toNat + (50 * b + i) * 11 : ℕ) := by
  obtain ⟨n, hn, he⟩ := bin_le (args x0 x1 x2 x3 x4 x5 x6) b i k
  rw [val_main_v45_apply, bin_live x0 x1 x2 x3 x4 x5 x6 b i k h, base_word, he]
  show (BitVec.ofNat 32 n + BitVec.ofNat 32 ((50 * b + i) * 11)).toInt = _
  have hb := b.isLt
  have hi := i.isLt
  have e1 : (n + (50 * (b : ℕ) + i) * 11) % 2 ^ 32 = n + (50 * b + i) * 11 := Nat.mod_eq_of_lt (by omega)
  have e2 : n % 2 ^ 32 = n := Nat.mod_eq_of_lt (by omega)
  rw [← BitVec.ofNat_add, BitVec.toInt_eq_toNat_of_lt (by rw [BitVec.toNat_ofNat, e1]; omega), BitVec.toNat_ofNat,
    BitVec.toNat_ofNat, e1, e2]

end Cert.ReferenceIdeal.Drmm

end

end
-- ==== Proof.RefCount.lean ====
/-
# The reference's histogram

The reference scatters a one for every pair of present tokens into a flat histogram. Read at a query token and a bin,
the histogram holds the number of present document tokens of that bin.
-/
module

public import proofs.«01_k».proof.Proof.RefBin

@[expose] public section

noncomputable section

namespace Cert.ReferenceIdeal.Drmm

open Cert.ReferenceIdeal Cert.ReferenceIdeal.Gen Cert.ReferenceIdeal.Read Cert.Drmm
open Idealize.ShloMosaic Idealize.ShloMosaic.ValueIdx

variable (x0 : (⟨S64x50x50, .f32⟩ : BufTy).Contents (Elt Ideal)) (x1 : (⟨S64x4096x50, .f32⟩ : BufTy).Contents (Elt Ideal))
  (x2 : (⟨S64x50, .i32⟩ : BufTy).Contents (Elt Ideal)) (x3 : (⟨S64x4096, .i32⟩ : BufTy).Contents (Elt Ideal))
  (x4 : (⟨S1x550, .f32⟩ : BufTy).Contents (Elt Ideal)) (x5 : (⟨S1, .f32⟩ : BufTy).Contents (Elt Ideal))
  (x6 : (⟨S1x2500, .f32⟩ : BufTy).Contents (Elt Ideal))

/-- The flat position of a pair of tokens. -/
def pairAt (b : Fin 64) (i : Fin 50) (k : Fin 4096) : Fin 13107200 := ⟨4096 * (50 * b + i) + k, by omega⟩

/-- The flat position of a bin. -/
def binAt (b : Fin 64) (i : Fin 50) (n : Fin 11) : Fin 35200 := ⟨(50 * b + i) * 11 + n, by omega⟩

/-- A sum over all pairs of tokens, by batch, query token and document token. -/
theorem sum_pairs (f : Fin 13107200 → EReal) : ∑ j, f j = ∑ b : Fin 64, ∑ i : Fin 50, ∑ k : Fin 4096, f (pairAt b i k) := by
  rw [sum_split (m := 3200) (n := 4096) (by norm_num) f, sum_split (m := 64) (n := 50) (by norm_num)]
  rfl

/-- The pair of tokens at a flat position. -/
theorem pair_idx (b : Fin 64) (i : Fin 50) (k : Fin 4096) : idx_main_v46 (ix1 (pairAt b i k)) = ix3 b i k := by
  have hb := b.isLt
  have hi := i.isLt
  have hk := k.isLt
  funext a
  refine Fin.ext ?_
  match a with
  | ⟨0, _⟩ => show (4096 * (50 * (b : ℕ) + i) + k) / 204800 = b; omega
  | ⟨1, _⟩ => show (4096 * (50 * (b : ℕ) + i) + k) / 4096 % 50 = i; omega
  | ⟨2, _⟩ => show (4096 * (50 * (b : ℕ) + i) + k) % 4096 = k; omega

/-- A word that is not negative keeps its place. -/
theorem keep_place (p q : BitVec 32) (h : 0 ≤ p.toInt) : Scalar.select (IntOp.cmpi .slt p 0#32) q p = p := by
  have : IntOp.cmpi .slt p 0#32 = 0#1 := by
    show BitVec.ofBool (p.slt 0#32) = 0#1
    rw [BitVec.slt_eq_decide, decide_eq_false (by simpa using h)]
    rfl
  rw [this]
  rfl

/-- The update of a pair of tokens, where it lands and what it adds. -/
theorem update (b : Fin 64) (i : Fin 50) (n : Fin 11) (b' : Fin 64) (i' : Fin 50) (k : Fin 4096) :
    (if ((val_main_v54 x0 x1 x2 x3 (ix2 (pairAt b' i' k) 0) : BitVec 32)).toInt = ((binAt b i n : Fin 35200) : ℤ)
        then (val_main_v48 (F := Ideal) x2 x3 (ix1 (pairAt b' i' k)) : EReal) else 0)
      = open Classical in if b' = b ∧ i' = i ∧ (args x0 x1 x2 x3 x4 x5 x6).live b' i' k
          ∧ ((args x0 x1 x2 x3 x4 x5 x6).bin b' i' k).toNat = n then 1 else 0 := by
  classical
  have hw : (val_main_v48 (F := Ideal) x2 x3 (ix1 (pairAt b' i' k)) : EReal)
      = if x2 (ix2 b' i') ≠ 0#32 ∧ x3 (ix2 b' k) ≠ 0#32 then 1 else 0 := by
    rw [val_main_v48_apply, show idx_main_v48 (ix1 (pairAt b' i' k)) = ix3 b' i' k from pair_idx b' i' k, weight_pair]
  rw [hw]
  by_cases h : x2 (ix2 b' i') ≠ 0#32 ∧ x3 (ix2 b' k) ≠ 0#32
  · have hp := place_live x0 x1 x2 x3 x4 x5 x6 b' i' k h
    have e : (val_main_v54 x0 x1 x2 x3 (ix2 (pairAt b' i' k) 0) : BitVec 32) = val_main_v45 x0 x1 x2 x3 (ix3 b' i' k) := by
      rw [val_main_v54_apply, show idx_main_v54 (ix2 (pairAt b' i' k) 0) = ix1 (pairAt b' i' k) from eq_ix1 _,
        val_main_v53_apply, val_main_v50_apply, val_main_v46_apply, pair_idx]
      exact keep_place _ _ (by rw [hp]; exact Int.natCast_nonneg _)
    obtain ⟨l, hl, hbin⟩ := bin_le (args x0 x1 x2 x3 x4 x5 x6) b' i' k
    have hlt : ((args x0 x1 x2 x3 x4 x5 x6).bin b' i' k).toNat ≤ 10 := by
      rw [hbin, BitVec.toNat_ofNat]
      exact (Nat.mod_le _ _).trans hl
    have hb := b.isLt
    have hi := i.isLt
    have hn := n.isLt
    have hb' := b'.isLt
    have hi' := i'.isLt
    rw [e, hp, if_pos h]
    refine if_congr ?_ rfl rfl
    rw [Nat.cast_inj]
    show _ + (50 * (b' : ℕ) + i') * 11 = (50 * (b : ℕ) + i) * 11 + n ↔ _
    constructor
    · intro he
      have h1 : (i' : ℕ) = i := by omega
      have h2 : (b' : ℕ) = b := by omega
      exact ⟨Fin.ext h2, Fin.ext h1, h, by omega⟩
    · rintro ⟨rfl, rfl, -, he⟩
      omega
  · rw [if_neg h, ite_self, if_neg fun hh => h hh.2.2.1]

/-- The histogram, read at a query token and a bin. -/
theorem histogram (b : Fin 64) (i : Fin 50) (n : Fin 11) :
    (val_main_v56 x0 x1 x2 x3 (ix3 b i n) : EReal) = (((args x0 x1 x2 x3 x4 x5 x6).count b i n : ℝ) : EReal) := by
  classical
  rw [val_main_v56_apply, show idx_main_v56 (ix3 b i n) = ix1 (binAt b i n) from by
    funext a
    refine Fin.ext ?_
    match a with
    | ⟨0, _⟩ => show ((b : ℕ) * 50 + i) * 11 + n = (50 * b + i) * 11 + n; omega]
  refine (scatterAdd_apply scatter_S35200_S13107200x1_S13107200_n_0_0_1 rfl rfl rfl (val_main_v47 (F := Ideal))
    (val_main_v54 x0 x1 x2 x3) (val_main_v48 (F := Ideal) x2 x3) (binAt b i n)).trans ?_
  rw [show (val_main_v47 (F := Ideal) (ix1 (binAt b i n)) : EReal) = 0 from by
    rw [val_main_v47_apply, val_main_cst_10_apply]; exact Ideal.ofBits_zero_f32, zero_add, sum_pairs]
  simp only [update x0 x1 x2 x3 x4 x5 x6 b i n]
  rw [Finset.sum_eq_single b (fun b' _ hb => Finset.sum_eq_zero fun i' _ => Finset.sum_eq_zero fun k _ =>
      if_neg fun h => hb h.1) (fun h => absurd (Finset.mem_univ b) h),
    Finset.sum_eq_single i (fun i' _ hi => Finset.sum_eq_zero fun k _ => if_neg fun h => hi h.2.1)
      (fun h => absurd (Finset.mem_univ i) h)]
  simp only [true_and]
  rw [Args.count, ← Finset.sum_boole, coe_sum]
  refine Finset.sum_congr rfl fun k _ => ?_
  split <;> simp

end Cert.ReferenceIdeal.Drmm

end

end
-- ==== Proof.Gate.lean ====
/-
# The sum of the softmax

The reference multiplies every gate by the biased score and adds the products; the kernel adds the gates and
multiplies once. Over the extended reals the two agree: a gate is a quotient of a nonnegative number, so the gates
are all nonnegative — or the exponentials add up to nothing, and then every gate is minus infinity.
-/
module

public import proofs.«01_k».proof.Proof.Spec

@[expose] public section

open Idealize.ShloMosaic

namespace Cert.Drmm

/-- An exponential is not negative. -/
theorem exp_nonneg' (x : EReal) : 0 ≤ Ideal.exp x := by
  induction x with
  | bot => simp
  | top => simp
  | coe r => rw [Ideal.exp_coe]; exact_mod_cast (Real.exp_pos r).le

/-- A number times a sum of nonnegative ones is the sum of the products. -/
theorem mul_sum_nonneg {ι : Type} (s : Finset ι) (c : EReal) (f : ι → EReal) (hf : ∀ i ∈ s, 0 ≤ f i) :
    c * ∑ i ∈ s, f i = ∑ i ∈ s, c * f i := by
  classical
  induction s using Finset.induction_on with
  | empty => simp
  | insert i s hi ih =>
    rw [Finset.sum_insert hi, Finset.sum_insert hi,
      EReal.left_distrib_of_nonneg (hf i (Finset.mem_insert_self i s))
        (Finset.sum_nonneg fun j hj => hf j (Finset.mem_insert_of_mem hj)),
      ih fun j hj => hf j (Finset.mem_insert_of_mem hj)]

/-- Minus infinity added to itself a positive number of times, times a number. -/
theorem mul_sum_bot (c : EReal) : c * ∑ _j : Fin 64, (⊥ : EReal) = ∑ _j : Fin 64, c * ⊥ := by
  have hbot : (∑ _j : Fin 64, (⊥ : EReal)) = ⊥ := by rw [Fin.sum_univ_succ, EReal.bot_add]
  rw [hbot]
  rcases lt_trichotomy c 0 with h | h | h
  · rw [EReal.mul_bot_of_neg h]
    refine (top_le_iff.mp ?_).symm
    exact Finset.single_le_sum (f := fun _ : Fin 64 => (⊤ : EReal)) (fun _ _ => le_top) (Finset.mem_univ 0)
  · simp [h]
  · rw [EReal.mul_bot_of_pos h, hbot]

/-- The biased score times the sum of the gates is the sum of the products. -/
theorem mul_sum_gate (a : Args) (c : EReal) : c * ∑ j, a.gate j = ∑ j, c * a.gate j := by
  by_cases hs : ∑ j, a.weight j = 0
  · have hw : ∀ j, a.weight j = 0 := fun j =>
      (Finset.sum_eq_zero_iff_of_nonneg fun i _ => exp_nonneg' _).mp hs j (Finset.mem_univ j)
    have hg : ∀ j, a.gate j = ⊥ := fun j => by
      rw [Args.gate, hs, hw, Ideal.div, if_pos rfl, if_neg (lt_irrefl _)]
    simp only [hg]
    exact mul_sum_bot c
  · refine mul_sum_nonneg _ _ _ fun j _ => ?_
    rw [Args.gate, Ideal.div, if_neg hs]
    exact mul_nonneg (exp_nonneg' _) (EReal.inv_nonneg_of_nonneg (Finset.sum_nonneg fun i _ => exp_nonneg' _))

end Cert.Drmm
-- ==== Proof.RefValue.lean ====
/-
# What the reference computes

The feed-forward layer over the logarithms of the histogram, the softmax over the batch, and the sum of the biased
score times each softmax entry: the reference's result is the network's.
-/
module

public import proofs.«01_k».proof.Proof.RefCount
public import proofs.«01_k».proof.Proof.Gate
public import Idealize.ShloMosaic.PureOps.Reduce

@[expose] public section

noncomputable section

namespace Cert.ReferenceIdeal.Drmm

open Cert.ReferenceIdeal Cert.ReferenceIdeal.Gen Cert.ReferenceIdeal.Read Cert.Drmm
open Idealize.ShloMosaic Idealize.ShloMosaic.ValueIdx

variable (x0 : (⟨S64x50x50, .f32⟩ : BufTy).Contents (Elt Ideal)) (x1 : (⟨S64x4096x50, .f32⟩ : BufTy).Contents (Elt Ideal))
  (x2 : (⟨S64x50, .i32⟩ : BufTy).Contents (Elt Ideal)) (x3 : (⟨S64x4096, .i32⟩ : BufTy).Contents (Elt Ideal))
  (x4 : (⟨S1x550, .f32⟩ : BufTy).Contents (Elt Ideal)) (x5 : (⟨S1, .f32⟩ : BufTy).Contents (Elt Ideal))
  (x6 : (⟨S1x2500, .f32⟩ : BufTy).Contents (Elt Ideal))

/-- The logarithm of a count. -/
theorem feature_eq (b : Fin 64) (i : Fin 50) (n : Fin 11) :
    (val_main_v59 x0 x1 x2 x3 (ix3 b i n) : EReal) = (args x0 x1 x2 x3 x4 x5 x6).feature b i n := by
  rw [val_main_v59_apply, val_main_v58_apply, histogram x0 x1 x2 x3 x4 x5 x6, val_main_v57_apply, val_main_cst_13_apply]
  rfl

/-- The feed-forward layer with its bias. -/
theorem biased_eq (b : Fin 64) :
    (val_main_v65 x0 x1 x2 x3 x4 x5 (ix2 b 0) : EReal) = (args x0 x1 x2 x3 x4 x5 x6).score b + (args x0 x1 x2 x3 x4 x5 x6).b1 := by
  rw [val_main_v65_apply, val_main_v62_apply, val_main_v64_apply, val_main_v63_apply,
    sum_split (m := 50) (n := 11) (by norm_num)]
  refine congrArg₂ (fun a b : EReal => a + b) ?_ ?_
  · refine Finset.sum_congr rfl fun i _ => Finset.sum_congr rfl fun n _ => ?_
    have hb := b.isLt
    have hi := i.isLt
    have hn := n.isLt
    rw [val_main_v60_apply, val_main_v61_apply, ← feature_eq]
    refine congrArg₂ (fun a b : EReal => a * b) (congrArg _ (funext fun a => Fin.ext ?_)) (congrArg x4 (eq_ix2 _))
    match a with
    | ⟨0, _⟩ => show ((b : ℕ) * 550 + (11 * i + n)) / 550 = b; omega
    | ⟨1, _⟩ => show ((b : ℕ) * 550 + (11 * i + n)) / 11 % 50 = i; omega
    | ⟨2, _⟩ => show ((b : ℕ) * 550 + (11 * i + n)) % 11 = n; omega
  · exact congrArg x5 (eq_ix1 _)

/-- The gate's logit. -/
theorem logit_eq (b : Fin 64) : (val_main_v69 x0 x6 (ix1 b) : EReal) = (args x0 x1 x2 x3 x4 x5 x6).logit b := by
  have hb := b.isLt
  rw [val_main_v69_apply, show idx_main_v69 (ix1 b) = ix2 b 0 from by
    funext a
    refine Fin.ext ?_
    match a with
    | ⟨0, _⟩ => show (b : ℕ) / 1 = b; omega
    | ⟨1, _⟩ => rfl, val_main_v68_apply, sum_split (m := 50) (n := 50) (by norm_num)]
  refine Finset.sum_congr rfl fun i _ => Finset.sum_congr rfl fun e _ => ?_
  have hi := i.isLt
  have he := e.isLt
  rw [val_main_v66_apply, val_main_v67_apply]
  refine congrArg₂ (fun a b : EReal => a * b) (congrArg x0 (funext fun a => Fin.ext ?_)) (congrArg x6 (eq_ix2 _))
  match a with
  | ⟨0, _⟩ => show ((b : ℕ) * 2500 + (50 * i + e)) / 2500 = b; omega
  | ⟨1, _⟩ => show ((b : ℕ) * 2500 + (50 * i + e)) / 50 % 50 = i; omega
  | ⟨2, _⟩ => show ((b : ℕ) * 2500 + (50 * i + e)) % 50 = e; omega

/-- The word of minus infinity is the least extended real. -/
theorem lit_bot : (FloatOps.ofBits (F := Ideal) .f32 0xFF800000#32 : EReal) = ⊥ := by
  show Ideal.ofBits .f32 0xFF800000#32 = ⊥
  simp [Ideal.ofBits, Ideal.ieee]

/-- The largest logit. -/
theorem top_eq (j : S_.Idx) : (val_main_v71 x0 x6 j : EReal) = (args x0 x1 x2 x3 x4 x5 x6).top := by
  classical
  rw [val_main_v71_apply, val_main_cst_15_apply, lit_bot]
  refine (max_eq_right bot_le).trans ?_
  unfold val_main_v70
  refine (Host.reduce_eq_fold _ _ _ _ _ _).trans ?_
  rw [Finset.filter_true_of_mem fun i _ => funext fun a => a.elim0, val_main_cst_14_apply, lit_bot]
  show (Finset.univ : Finset S64.Idx).sup (fun j => (val_main_v69 x0 x6 j : EReal)) = _
  rw [Args.top, Finset.sup_univ_eq_iSup, Finset.sup_univ_eq_iSup, ← idxEquiv1.symm.iSup_comp]
  exact iSup_congr fun b => logit_eq x0 x1 x2 x3 x4 x5 x6 b

/-- The exponential of a logit's distance from the largest. -/
theorem weight_eq (b : Fin 64) : (val_main_v75 x0 x6 (ix1 b) : EReal) = (args x0 x1 x2 x3 x4 x5 x6).weight b := by
  rw [val_main_v75_apply, val_main_v74_apply, logit_eq x0 x1 x2 x3 x4 x5 x6, val_main_v73_apply, val_main_v72_apply,
    top_eq x0 x1 x2 x3 x4 x5 x6]
  rfl

/-- A softmax entry. -/
theorem gate_eq (b : Fin 64) : (val_main_v79 x0 x6 (ix1 b) : EReal) = (args x0 x1 x2 x3 x4 x5 x6).gate b := by
  rw [val_main_v79_apply, weight_eq x0 x1 x2 x3 x4 x5 x6, val_main_v78_apply, val_main_v77_apply, val_main_v76_apply,
    val_main_cst_16_apply, sum_idx1]
  refine congrArg (fun z : EReal => Ideal.div _ z) ?_
  refine (congrArg (fun z : EReal => z + _) Ideal.ofBits_zero_f32).trans ((zero_add _).trans ?_)
  exact Finset.sum_congr rfl fun j _ => weight_eq x0 x1 x2 x3 x4 x5 x6 j

/-- The reference's result is the network's. -/
theorem result_eq (b : Fin 64) :
    (val_main_v84 x0 x1 x2 x3 x4 x5 x6 (ix1 b) : EReal) = (args x0 x1 x2 x3 x4 x5 x6).out b := by
  rw [val_main_v84_apply, val_main_cst_17_apply, Args.out, mul_sum_gate]
  refine (congrArg (fun z : EReal => z + _) Ideal.ofBits_zero_f32).trans ((zero_add _).trans ?_)
  refine Finset.sum_congr rfl fun j _ => ?_
  rw [val_main_v83_apply, show idx_main_v84 (ix1 b) j = ix2 b j from eq_ix2 _, val_main_v81_apply, val_main_v82_apply,
    show idx_main_v81 (ix2 b j) = ix2 b 0 from eq_ix2 _, biased_eq x0 x1 x2 x3 x4 x5 x6, val_main_v80_apply,
    show idx_main_v82 (ix2 b j) = ix2 0 j from eq_ix2 _, show idx_main_v80 (ix2 0 j) = ix1 j from eq_ix1 _,
    gate_eq x0 x1 x2 x3 x4 x5 x6]
  rfl

end Cert.ReferenceIdeal.Drmm

end

end
-- ==== Proof.Precondition.lean ====
/-
# The precondition, read

The precondition counts, for every query token and every even bin below ten, the present document tokens of that bin,
and asks that there be fewer than 4096 of them. Its similarities and its presence weights are the reference's.
-/
module

public import proofs.«01_k».proof.Pre_no_full_even_bin
public import proofs.«01_k».proof.Proof.RefBin

@[expose] public section

noncomputable section

namespace Cert.Pre_no_full_even_bin.Drmm

open Cert.Pre_no_full_even_bin Cert.Drmm
open Idealize.ShloMosaic Idealize.ShloMosaic.ValueIdx

variable [Facts]

/-- An even bin's number, as the word the iota makes. -/
theorem even_word (g : Fin 5) : IntOp.muli 2#32 (BitVec.ofNat 32 (g : ℕ)) = BitVec.ofNat 32 (2 * (g : ℕ)) := by
  fin_cases g <;> rfl

/-- The last part of the precondition: the weights of a bin, summed over the documents, are below 4096. -/
theorem part2_apply (w : FVec Ideal S64x50x4096 .f32) (B : IVec S64x50x4096 32) (b : Fin 64) (i : Fin 50) (g : Fin 5) :
    fn_part2 (F := Ideal) w (broadcastInDim S64x50x4096x1 ![0, 1, 2] Facts.bcast_S64x50x4096_S64x50x4096x1_0_1_2 B)
        (muli (broadcastInDim S5 ![] Facts.bcast_S_S5 (constantI S_ 32 2#32)) (iotaInDim S5 32 0)) (ix3 b i g)
      = BitVec.ofBool (decide ((∑ k : Fin 4096, w (ix3 b i k) * (if B (ix3 b i k) = BitVec.ofNat 32 (2 * (g : ℕ)) then 1 else 0) : EReal)
          < lit 0x45800000#32)) := by
  have hr : Shape.Reduces S64x50x4096x5 [2] S64x50x5 := by decide
  unfold fn_part2
  refine congrArg (fun z : EReal => BitVec.ofBool (decide (z < lit 0x45800000#32))) ?_
  refine (Ideal.hostReduceAdd_single _ hr _ _ _).trans ?_
  refine (congrArg (fun z : EReal => z + _) Ideal.ofBits_zero_f32).trans ((zero_add _).trans ?_)
  refine Finset.sum_congr rfl fun (k : Fin 4096) _ => ?_
  have hk : hr.lift (ix3 b i g) k = ix4 b i k g := funext fun a => Fin.ext (by
    match a with | ⟨0, _⟩ => rfl | ⟨1, _⟩ => rfl | ⟨2, _⟩ => rfl | ⟨3, _⟩ => rfl)
  rw [hk]
  have last (h : S64x50x4096x1.BroadcastsInDim S64x50x4096x5 ![0, 1, 2, 3]) {e : Type} (x : S64x50x4096x1.Idx → e) :
      broadcastInDim S64x50x4096x5 ![0, 1, 2, 3] h x (ix4 b i k g) = x (ix4 b i k 0) :=
    broadcastInDim_apply _ h x _ _ (fun a => match a with
      | ⟨0, _⟩ => rfl | ⟨1, _⟩ => rfl | ⟨2, _⟩ => rfl | ⟨3, _⟩ => rfl)
  have front (h : S64x50x4096.BroadcastsInDim S64x50x4096x1 ![0, 1, 2]) {e : Type} (x : S64x50x4096.Idx → e) :
      broadcastInDim S64x50x4096x1 ![0, 1, 2] h x (ix4 b i k 0) = x (ix3 b i k) :=
    broadcastInDim_apply _ h x _ _ (fun a => match a with
      | ⟨0, _⟩ => rfl | ⟨1, _⟩ => rfl | ⟨2, _⟩ => rfl)
  refine congrArg₂ (fun u v : EReal => u * v) ((last _ _).trans (front _ _)) ?_
  refine (congrArg₂ (fun u v : BitVec 32 => ((((IntOp.cmpi .eq u v).toNat : ℝ)) : EReal)) ((last _ _).trans (front _ _))
    (even_word g)).trans ?_
  by_cases h : B (ix3 b i k) = BitVec.ofNat 32 (2 * (g : ℕ)) <;> simp [IntOp.cmpi, h]

variable (x0 : FVec Ideal S64x50x50 .f32) (x1 : FVec Ideal S64x4096x50 .f32) (x2 : IVec S64x50 32) (x3 : IVec S64x4096 32)
  (x4 : FVec Ideal S1x550 .f32) (x5 : FVec Ideal S1 .f32) (x6 : FVec Ideal S1x2500 .f32)

/-- The precondition at an index, on the reference's similarities and weights. -/
theorem fn_apply (b : Fin 64) (i : Fin 50) (g : Fin 5) :
    fn (F := Ideal) x0 x1 x2 x3 x4 x5 x6 (ix3 b i g)
      = BitVec.ofBool (decide ((∑ k : Fin 4096, (ReferenceIdeal.Read.val_main_v20 (F := Ideal) x2 x3 (ix3 b i k) : EReal)
          * (if binOf (ReferenceIdeal.Read.val_main_v10 (F := Ideal) x0 x1 (ix3 b i k)) = BitVec.ofNat 32 (2 * (g : ℕ)) then 1 else 0))
          < lit 0x45800000#32)) :=
  part2_apply (ReferenceIdeal.Read.val_main_v20 (F := Ideal) x2 x3)
    (fun j => binOf (ReferenceIdeal.Read.val_main_v10 (F := Ideal) x0 x1 j)) b i g

/-- A bit that is one is the bit of a truth. -/
theorem true_of_ofBool : ∀ p : Bool, BitVec.ofBool p = 1#1 → p = true := by decide

/-- Where the precondition holds, no even bin holds all documents. -/
theorem no_full_even_bin (h : fn (F := Ideal) x0 x1 x2 x3 x4 x5 x6 = fun _ => 1#1) :
    (argsOf x0 x1 x2 x3 x4 x5 x6).NoFullEvenBin := by
  classical
  intro b i g
  have hg := (fn_apply x0 x1 x2 x3 x4 x5 x6 b i g).symm.trans (congrFun h (ix3 b i g))
  have hlt := of_decide_eq_true (true_of_ofBool _ hg)
  have e : (∑ k : Fin 4096, (ReferenceIdeal.Read.val_main_v20 (F := Ideal) x2 x3 (ix3 b i k) : EReal)
      * (if binOf (ReferenceIdeal.Read.val_main_v10 (F := Ideal) x0 x1 (ix3 b i k)) = BitVec.ofNat 32 (2 * (g : ℕ)) then 1 else 0))
      = (((argsOf x0 x1 x2 x3 x4 x5 x6).count b i (2 * g) : ℝ) : EReal) := by
    rw [Args.count, ← Finset.sum_boole, coe_sum]
    refine Finset.sum_congr rfl fun k _ => ?_
    obtain ⟨n, hn, hb⟩ := bin_le (argsOf x0 x1 x2 x3 x4 x5 x6) b i k
    have hw : binOf (cosine (fun e => x0 (ix3 b i e)) (fun e => x1 (ix3 b k e))) = BitVec.ofNat 32 (2 * (g : ℕ))
        ↔ ((argsOf x0 x1 x2 x3 x4 x5 x6).bin b i k).toNat = 2 * g := by
      rw [show binOf (cosine (fun e => x0 (ix3 b i e)) (fun e => x1 (ix3 b k e))) = (argsOf x0 x1 x2 x3 x4 x5 x6).bin b i k from rfl,
        ← BitVec.toNat_inj, BitVec.toNat_ofNat, Nat.mod_eq_of_lt (by omega)]
    rw [ReferenceIdeal.Drmm.mask, ReferenceIdeal.Drmm.similarity]
    simp only [hw]
    by_cases h1 : x2 (ix2 b i) ≠ 0#32 ∧ x3 (ix2 b k) ≠ 0#32
    · rw [if_pos h1, one_mul]
      have h2 : (argsOf x0 x1 x2 x3 x4 x5 x6).live b i k := h1
      simp only [h2, true_and]
      split <;> simp
    · rw [if_neg h1, zero_mul, if_neg fun hh => h1 hh.1]
      simp
  rw [e, lit_4096, EReal.coe_lt_coe_iff] at hlt
  exact_mod_cast hlt

end Cert.Pre_no_full_even_bin.Drmm

end

end
-- ==== Proof.Twin.lean ====
/-
  The kernel and its idealization are the same program: nothing was rewritten, so a run of the one at
  any floats is a run of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Twin

open Idealize.ShloMosaic Idealize.SL.Sem

variable {F : FTy → Type} [FloatOps F]

/-- The kernels' functions agree. -/
theorem step_eq : Cert.Kernel.cc0__drmm_step (F := F) = Cert.KernelIdeal.cc0__drmm_step (F := F) := rfl

/-- The body tables agree, label by label. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, _ => rfl
  | ⟨n + 1, h⟩, _ => exact absurd h (Nat.not_lt.2 (Nat.le_add_left _ _))

/-- So the tables of all functions agree. -/
theorem defs_eq : Cert.Kernel.defs (F := F) = Cert.KernelIdeal.defs (F := F) := by
  unfold Cert.Kernel.defs Cert.KernelIdeal.defs
  rw [bodies_eq]
  rfl

/-- And the main programs. -/
theorem main_eq : Cert.Kernel.main (F := F) = Cert.KernelIdeal.main (F := F) := rfl

end Cert.Twin

end
-- ==== Proof.lean ====
/-
  The claims about the histogram-matching kernel, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_full_even_bin
public import proofs.«01_k».proof.Proof.KernelValue
public import proofs.«01_k».proof.Proof.RefValue
public import proofs.«01_k».proof.Proof.Precondition
public import proofs.«01_k».proof.Proof.Twin

@[expose] public section

noncomputable section

namespace Cert.Proof

open Idealize.ShloMosaic Idealize.ShloMosaic.ValueIdx Idealize.SL.Sem

/-- The reference leaves its arguments unchanged; it has no counters. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel at the machine's floats leaves its arguments unchanged and its counters at zero: it is the program
    whose run is known at any floats. -/
theorem kernel_frame : Cert.quiescent_Kernel := fun m ρ _ => by
  rw [Cert.Twin.defs_eq, Cert.Twin.main_eq]
  exact Cert.KernelIdeal.Drmm.frame (F := Bits) m ρ

/-- Where no even bin is full, the kernel's result after its launch is the network's. -/
theorem kernel_result (m : (ℓ : Loc Cert.KernelIdeal.nD Cert.KernelIdeal.τ Cert.KernelIdeal.sig) → Buf (Elt Ideal) ℓ)
    (c : Dev Cert.KernelIdeal.nD) (h : (Cert.KernelIdeal.Drmm.args m c).NoFullEvenBin) :
    (Pipeline.afterTail₀ Cert.KernelIdeal.cfgs (Cert.KernelIdeal.Drmm.dats m) 0 (Cert.KernelIdeal.Gen.V0 m)
        [Cert.KernelIdeal.Gen.hostOps1] c Cert.KernelIdeal.main_v20 : Cert.KernelIdeal.S64.Idx → EReal)
      = fun j => (Cert.KernelIdeal.Drmm.args m c).out (j 0) := by
  funext j
  rw [eq_ix1 j]
  exact (Cert.KernelIdeal.Drmm.result_eq m c _).trans (Cert.KernelIdeal.Drmm.gated_out m c h _)

/-- The reference's result is the network's. -/
theorem reference_result (m : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v84 m c : Cert.ReferenceIdeal.S64.Idx → EReal)
      = fun j => (Cert.ReferenceIdeal.Drmm.args (m ((c.tc : Thread _ _).loc Cert.ReferenceIdeal.main_arg0))
        (m ((c.tc : Thread _ _).loc Cert.ReferenceIdeal.main_arg1)) (m ((c.tc : Thread _ _).loc Cert.ReferenceIdeal.main_arg2))
        (m ((c.tc : Thread _ _).loc Cert.ReferenceIdeal.main_arg3)) (m ((c.tc : Thread _ _).loc Cert.ReferenceIdeal.main_arg4))
        (m ((c.tc : Thread _ _).loc Cert.ReferenceIdeal.main_arg5)) (m ((c.tc : Thread _ _).loc Cert.ReferenceIdeal.main_arg6))).out (j 0) := by
  funext j
  rw [eq_ix1 j, Cert.ReferenceIdeal.Read.val_main_v84_eq]
  exact Cert.ReferenceIdeal.Drmm.result_eq _ _ _ _ _ _ _ _

/-- Where no even bin is full, the kernel and the reference both end with the network's result, over the extended reals. -/
theorem algebraic : Cert.algebraic_KernelIdeal_ReferenceIdeal_pre_no_full_even_bin := fun m ρ m' ρ' hpre hagree =>
  ⟨fun c j => (Cert.KernelIdeal.Drmm.args m c).out (j 0),
    (θ_run Cert.KernelIdeal.defs _ _).mono
      (fun r h c => ⟨((h.1.1 c).2 Cert.KernelIdeal.main_v20
          (Pipeline.mem_restRefs_of Cert.KernelIdeal.main_v20 (by decide) (by decide))).trans
            (kernel_result m c (Cert.Pre_no_full_even_bin.Drmm.no_full_even_bin _ _ _ _ _ _ _ (hpre c))), h.2.1 c⟩)
      (θ_run_and (Cert.KernelIdeal.Drmm.run_quiescent m ρ) (Cert.KernelIdeal.Drmm.frame m ρ)),
    (θ_run Cert.ReferenceIdeal.defs _ _).mono
      (fun r h c => ⟨(h c).1.trans ((reference_result m' c).trans (by
          obtain ⟨e0, e1, e2, e3, e4, e5, e6⟩ := hagree c
          rw [e0, e1, e2, e3, e4, e5, e6]
          rfl)), (h c).2⟩)
      (Cert.ReferenceIdeal.Value.run (F := Ideal) m' ρ')⟩

/-- All the claims: the three frames, that the idealization is the kernel's own text, and the equal results. -/
theorem claim : Cert.Claim :=
  ⟨Cert.Kernel.Gen.facts, Cert.KernelIdeal.Gen.facts, Cert.ReferenceIdeal.Gen.facts, Cert.Pre_no_full_even_bin.Gen.facts,
    kernel_frame, fun m ρ _ => Cert.KernelIdeal.Drmm.frame m ρ, fun m ρ _ => Cert.KernelIdeal.Drmm.frame m ρ,
    reference_frame, fun m ρ _ => reference_frame m ρ trivial, trivial, algebraic⟩

end Cert.Proof

end
